-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 128]⟩ ⟨2, ![1024, 128]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S1024x128 : Shape := ⟨2, ![1024, 128]⟩
abbrev S3 : Shape := ⟨1, ![3]⟩
abbrev S4 : Shape := ⟨1, ![4]⟩
abbrev S_ : Shape := ⟨0, ![]⟩
abbrev S256x1 : Shape := ⟨2, ![256, 1]⟩
abbrev S255x128 : Shape := ⟨2, ![255, 128]⟩
abbrev S1x128 : Shape := ⟨2, ![1, 128]⟩
abbrev S254x128 : Shape := ⟨2, ![254, 128]⟩
abbrev S2x128 : Shape := ⟨2, ![2, 128]⟩
abbrev S252x128 : Shape := ⟨2, ![252, 128]⟩
abbrev S4x128 : Shape := ⟨2, ![4, 128]⟩
abbrev S248x128 : Shape := ⟨2, ![248, 128]⟩
abbrev S8x128 : Shape := ⟨2, ![8, 128]⟩
abbrev S8x2x16x128 : Shape := ⟨4, ![8, 2, 16, 128]⟩
abbrev S8x1x16x128 : Shape := ⟨4, ![8, 1, 16, 128]⟩
abbrev S4x2x32x128 : Shape := ⟨4, ![4, 2, 32, 128]⟩
abbrev S4x1x32x128 : Shape := ⟨4, ![4, 1, 32, 128]⟩
abbrev S2x2x64x128 : Shape := ⟨4, ![2, 2, 64, 128]⟩
abbrev S2x1x64x128 : Shape := ⟨4, ![2, 1, 64, 128]⟩
abbrev S1x2x128x128 : Shape := ⟨4, ![1, 2, 128, 128]⟩
abbrev S1x1x128x128 : Shape := ⟨4, ![1, 1, 128, 128]⟩
abbrev S1 : Shape := ⟨1, ![1]⟩
abbrev S512x128 : Shape := ⟨2, ![512, 128]⟩
abbrev S512x1 : Shape := ⟨2, ![512, 1]⟩
abbrev S1x2x256x128 : Shape := ⟨4, ![1, 2, 256, 128]⟩
abbrev S1x1x256x128 : Shape := ⟨4, ![1, 1, 256, 128]⟩
abbrev S2x2x128x128 : Shape := ⟨4, ![2, 2, 128, 128]⟩
abbrev S2x1x128x128 : Shape := ⟨4, ![2, 1, 128, 128]⟩
abbrev S4x2x64x128 : Shape := ⟨4, ![4, 2, 64, 128]⟩
abbrev S4x1x64x128 : Shape := ⟨4, ![4, 1, 64, 128]⟩
abbrev S8x2x32x128 : Shape := ⟨4, ![8, 2, 32, 128]⟩
abbrev S8x1x32x128 : Shape := ⟨4, ![8, 1, 32, 128]⟩
abbrev S16x2x16x128 : Shape := ⟨4, ![16, 2, 16, 128]⟩
abbrev S16x1x16x128 : Shape := ⟨4, ![16, 1, 16, 128]⟩
abbrev S504x128 : Shape := ⟨2, ![504, 128]⟩
abbrev S508x128 : Shape := ⟨2, ![508, 128]⟩
abbrev S510x128 : Shape := ⟨2, ![510, 128]⟩
abbrev S511x128 : Shape := ⟨2, ![511, 128]⟩
abbrev S1024x1 : Shape := ⟨2, ![1024, 1]⟩
abbrev S1x2x512x128 : Shape := ⟨4, ![1, 2, 512, 128]⟩
abbrev S1x1x512x128 : Shape := ⟨4, ![1, 1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S256x128, .bf16⟩
  | .hbm, ⟨1, _⟩ => ⟨S256x128, .f32⟩
  | .local _ .vmem, ⟨0, _⟩ => ⟨S256x128, .bf16⟩
  | .local _ .vmem, ⟨1, _⟩ => ⟨S256x128, .f32⟩
  | .local _ .vmem, ⟨2, _⟩ => ⟨S1024x128, .bf16⟩
  | .local _ .vmem, ⟨3, _⟩ => ⟨S1024x128, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v32 : BitVec 32 := Scalar.addi v2 c1_i32_12
  let c4_i32_13 : BitVec 32 := 4#32
  let v33 : BitVec 32 := Scalar.remsi v32 c4_i32_13
  let c1_i32_15 : BitVec 32 := 1#32
  let v34 : BitVec 32 := Scalar.muli v33 c1_i32_15
  let v35 : BitVec 32 := Scalar.addi c0_i32_16 v34
  v35.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_17 : BitVec 32 := 2#32
  let v36 : BitVec 32 := Scalar.addi v2 c2_i32_17
  let c4_i32_18 : BitVec 32 := 4#32
  let v37 : BitVec 32 := Scalar.remsi v36 c4_i32_18
  let c1_i32_20 : BitVec 32 := 1#32
  let v38 : BitVec 32 := Scalar.muli v37 c1_i32_20
  let v39 : BitVec 32 := Scalar.addi c0_i32_21 v38
  v39.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v40 : BitVec 32 := Scalar.addi v2 c3_i32
  let c4_i32_22 : BitVec 32 := 4#32
  let v41 : BitVec 32 := Scalar.remsi v40 c4_i32_22
  let c1_i32_24 : BitVec 32 := 1#32
  let v42 : BitVec 32 := Scalar.muli v41 c1_i32_24
  let v43 : BitVec 32 := Scalar.addi c0_i32_25 v42
  v43.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_252 : BitVec 32 := 256#32
  let v1144 : BitVec 32 := Scalar.muli v2 c256_i32_252
  let v1145 : Index := Scalar.indexCast v1144
  let c0_253 : Index := 0#32
  ![v1145.toNat, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_259 : BitVec 32 := 256#32
  let v1153 : BitVec 32 := Scalar.muli v2 c256_i32_259
  let c0_i32_263 : BitVec 32 := 0#32
  ![v1153.toNat, 0]
def k0_dev4 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_255 : BitVec 32 := 1#32
  let v1149 : BitVec 32 := Scalar.xori v2 c1_i32_255
  let c1_i32_261 : BitVec 32 := 1#32
  let v1154 : BitVec 32 := Scalar.muli v1149 c1_i32_261
  let v1155 : BitVec 32 := Scalar.addi c0_i32_262 v1154
  v1155.toNat
def k0_dev5 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_256 : BitVec 32 := 2#32
  let v1150 : BitVec 32 := Scalar.xori v2 c2_i32_256
  let c1_i32_268 : BitVec 32 := 1#32
  let v1164 : BitVec 32 := Scalar.muli v1150 c1_i32_268
  let v1165 : BitVec 32 := Scalar.addi c0_i32_269 v1164
  v1165.toNat
def k0_dev6 (d0 : Dev nD) : Nat :=
  let c0_i32_276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_257 : BitVec 32 := 3#32
  let v1151 : BitVec 32 := Scalar.xori v2 c3_i32_257
  let c1_i32_275 : BitVec 32 := 1#32
  let v1174 : BitVec 32 := Scalar.muli v1151 c1_i32_275
  let v1175 : BitVec 32 := Scalar.addi c0_i32_276 v1174
  v1175.toNat
def k0_off4 (d0 : Dev nD) (c1_i32_281 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1185 : BitVec 32 := Scalar.xori v2 c1_i32_281
  ![v1185.toNat]
def k0_off5 (d0 : Dev nD) (c1_i32_281 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1185 : BitVec 32 := Scalar.xori v2 c1_i32_281
  let c256_i32_283 : BitVec 32 := 256#32
  let v1187 : BitVec 32 := Scalar.muli v1185 c256_i32_283
  let c0_i32_287 : BitVec 32 := 0#32
  ![v1187.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c512_i32 : BitVec 32 := 512#32
  let v1182 : BitVec 32 := Scalar.muli v30 c512_i32
  let v1194 : Index := Scalar.indexCast v1182
  let c0_289 : Index := 0#32
  ![v1194.toNat, 0]
def k0_off7 (d0 : Dev nD) : Fin 2 → Nat :=
  let c1_i32_279 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let v1183 : BitVec 32 := Scalar.subi c1_i32_279 v30
  let c512_i32_280 : BitVec 32 := 512#32
  let v1184 : BitVec 32 := Scalar.muli v1183 c512_i32_280
  let v1425 : Index := Scalar.indexCast v1184
  let c0_342 : Index := 0#32
  ![v1425.toNat, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x128 : Shape := ⟨2, ![1024, 128]⟩

abbrev nBuf : Space → Nat
  | .hbm => 3
  | .vmem => 0
  | .smem => 0
  | _ => 0

abbrev bufTy : (tb : Table) → Fin (tcTables nBuf tb) → BufTy
  | .hbm, ⟨0, _⟩ => ⟨S1024x128, .bf16⟩
  | .hbm, ⟨1, _⟩ => ⟨S1024x128, .f32⟩
  | .hbm, ⟨2, _⟩ => ⟨S1024x128, .f32⟩
  | _, _ => ⟨S1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Stage.lean ====
/-
# `Stage`: the compare-exchange stages the kernel is made of

Every payload of the kernel is one or two compare-exchange stages of a bitonic network over the rows of an
`n × 128` vector. A stage at distance `d` pairs row `r` with row `r xor d` and keeps the smaller or the larger of
the two, as a row mask says. The partner rows are brought over by rotating the rows (`rot`, short distances) or by
exchanging halves of a reshaped vector (`swap`, long distances). This file names the two and the stages, and states
each payload of the kernel as the stages it performs.
-/
module

public import proofs.«01_k».proof.Proof.Gen.KernelIdeal
public import proofs.«01_k».proof.Proof.Gen.KernelIdeal.Skeleton

@[expose] public section

noncomputable section

namespace Cert.SortProof

open Idealize.ShloMosaic Idealize.SL.Sem
open Cert.KernelIdeal Cert.KernelIdeal.Gen

variable {F : FTy → Type} [FloatOps F]

/-- A column of `n` rows. -/
abbrev Col (n : ℕ) : Shape := ⟨2, ![n, 1]⟩
/-- `n` rows of 128 lanes. -/
abbrev Mat (n : ℕ) : Shape := ⟨2, ![n, 128]⟩
/-- `n` rows as blocks of `2d` rows, each split in two halves. -/
abbrev Blk (n d : ℕ) : Shape := ⟨4, ![n / (2 * d), 2, d, 128]⟩
/-- One half of each block. -/
abbrev Hlf (n d : ℕ) : Shape := ⟨4, ![n / (2 * d), 1, d, 128]⟩

/-- What the masks of `n` rows need of the shapes. -/
class MaskOk (n : ℕ) : Prop where
  iotas : (Col n).Iotas .tc 32 [0]
  casts : (Col n).ShapeCasts (Col n)
  spread : (Col n).Broadcasts (Mat n)
  same : (Col n).Broadcasts (Col n)

/-- What a rotation of `n` rows by `d` needs of the shapes. -/
class RotOk (n d : ℕ) : Prop where
  hiTail : (Mat n).Slices ![d, 0] (Mat (n - d))
  hiHead : (Mat n).Slices ![0, 0] (Mat d)
  hi : Shape.Concatenates [Mat (n - d), Mat d] (Mat n) 0
  loTail : (Mat n).Slices ![n - d, 0] (Mat d)
  loHead : (Mat n).Slices ![0, 0] (Mat (n - d))
  lo : Shape.Concatenates [Mat d, Mat (n - d)] (Mat n) 0

/-- What an exchange of halves at distance `d` needs of the shapes. -/
class SwapOk (n d : ℕ) : Prop where
  split : (Mat n).ShapeCasts (Blk n d)
  second : (Blk n d).Slices ![0, 1, 0, 0] (Hlf n d)
  first : (Blk n d).Slices ![0, 0, 0, 0] (Hlf n d)
  join : Shape.Concatenates [Hlf n d, Hlf n d] (Blk n d) 1
  merge : (Blk n d).ShapeCasts (Mat n)

instance : MaskOk 256 := ⟨by decide, by decide, by decide, by decide⟩
instance : MaskOk 512 := ⟨by decide, by decide, by decide, by decide⟩
instance : MaskOk 1024 := ⟨by decide, by decide, by decide, by decide⟩
instance : RotOk 256 1 := ⟨by decide, by decide, by decide, by decide, by decide, by decide⟩
instance : RotOk 256 2 := ⟨by decide, by decide, by decide, by decide, by decide, by decide⟩
instance : RotOk 256 4 := ⟨by decide, by decide, by decide, by decide, by decide, by decide⟩
instance : RotOk 256 8 := ⟨by decide, by decide, by decide, by decide, by decide, by decide⟩
instance : RotOk 512 1 := ⟨by decide, by decide, by decide, by decide, by decide, by decide⟩
instance : RotOk 512 2 := ⟨by decide, by decide, by decide, by decide, by decide, by decide⟩
instance : RotOk 512 4 := ⟨by decide, by decide, by decide, by decide, by decide, by decide⟩
instance : RotOk 512 8 := ⟨by decide, by decide, by decide, by decide, by decide, by decide⟩
instance : SwapOk 256 16 := ⟨by decide, by decide, by decide, by decide, by decide⟩
instance : SwapOk 256 32 := ⟨by decide, by decide, by decide, by decide, by decide⟩
instance : SwapOk 256 64 := ⟨by decide, by decide, by decide, by decide, by decide⟩
instance : SwapOk 256 128 := ⟨by decide, by decide, by decide, by decide, by decide⟩
instance : SwapOk 512 16 := ⟨by decide, by decide, by decide, by decide, by decide⟩
instance : SwapOk 512 32 := ⟨by decide, by decide, by decide, by decide, by decide⟩
instance : SwapOk 512 64 := ⟨by decide, by decide, by decide, by decide, by decide⟩
instance : SwapOk 512 128 := ⟨by decide, by decide, by decide, by decide, by decide⟩
instance : SwapOk 512 256 := ⟨by decide, by decide, by decide, by decide, by decide⟩
instance : SwapOk 1024 512 := ⟨by decide, by decide, by decide, by decide, by decide⟩

/-- The rows whose number has the bit `d` clear. -/
def bit (n d : ℕ) [h : MaskOk n] : IVec (Col n) 1 :=
  cmpi .eq (andi (iota .tc (Col n) 32 [0] h.iotas) (broadcast (Col n) (BitVec.ofNat 32 d)))
    (broadcast (Col n) (BitVec.ofNat 32 0))

/-- One word on every row. -/
def flag (n : ℕ) [h : MaskOk n] (b : BitVec 1) : IVec (Col n) 1 :=
  broadcastTo (Col n) (broadcast (Col n) b) h.same

/-- A row mask spread over the lanes. -/
def lanes {n : ℕ} [h : MaskOk n] (m : IVec (Col n) 1) : IVec (Mat n) 1 :=
  broadcastTo (Mat n) (shapeCast (Col n) m h.casts) h.spread

/-- The rows moved up by `d`: the last `n - d` rows, then the first `d`. -/
def up (n d : ℕ) [h : RotOk n d] (v : FVec F (Mat n) .bf16) : FVec F (Mat n) .bf16 :=
  concatenate (Mat n) 0 [⟨Mat (n - d), extractStridedSlice (Mat (n - d)) ![d, 0] v h.hiTail⟩,
    ⟨Mat d, extractStridedSlice (Mat d) ![0, 0] v h.hiHead⟩] h.hi

/-- The rows moved down by `d`: the last `d` rows, then the first `n - d`. -/
def down (n d : ℕ) [h : RotOk n d] (v : FVec F (Mat n) .bf16) : FVec F (Mat n) .bf16 :=
  concatenate (Mat n) 0 [⟨Mat d, extractStridedSlice (Mat d) ![n - d, 0] v h.loTail⟩,
    ⟨Mat (n - d), extractStridedSlice (Mat (n - d)) ![0, 0] v h.loHead⟩] h.lo

/-- Each row's partner at distance `d`, by rotations. -/
def rot (n d : ℕ) [MaskOk n] [RotOk n d] (v : FVec F (Mat n) .bf16) : FVec F (Mat n) .bf16 :=
  select (lanes (bit n d)) (up n d v) (down n d v)

/-- Each row's partner at distance `d`, by exchanging the halves of every block of `2d` rows. -/
def swap (n d : ℕ) [h : SwapOk n d] (v : FVec F (Mat n) .bf16) : FVec F (Mat n) .bf16 :=
  shapeCast (Mat n) (concatenate (Blk n d) 1
    [⟨Hlf n d, extractStridedSlice (Hlf n d) ![0, 1, 0, 0] (shapeCast (Blk n d) v h.split) h.second⟩,
     ⟨Hlf n d, extractStridedSlice (Hlf n d) ![0, 0, 0, 0] (shapeCast (Blk n d) v h.split) h.first⟩] h.join) h.merge

/-- The smaller of the two on the masked rows, the larger on the others. -/
def exch {n : ℕ} [MaskOk n] (keep : IVec (Col n) 1) (v p : FVec F (Mat n) .bf16) : FVec F (Mat n) .bf16 :=
  select (lanes keep) (minimumf v p) (maximumf v p)

/-- Where the sort's stage `(k, d)` keeps the smaller: where the bits `k` and `d` of the row agree, or the opposite
    when `b` is set. -/
def keepSort (n k d : ℕ) [MaskOk n] (b : BitVec 1) : IVec (Col n) 1 :=
  xori (xori (xori (bit n k) (bit n d)) (constantI (Col n) 1 1#1)) (flag n b)

/-- Where a merge's stage keeps the smaller: on the lower row of each pair, or the opposite when `b` is set. -/
def keepMerge (n d : ℕ) [MaskOk n] (b : BitVec 1) : IVec (Col n) 1 := xori (bit n d) (flag n b)

/-- A stage of the local sort, short distance. -/
def sr (k d : ℕ) [RotOk 256 d] (b : BitVec 1) (v : FVec F (Mat 256) .bf16) : FVec F (Mat 256) .bf16 :=
  exch (keepSort 256 k d b) v (rot 256 d v)
/-- A stage of the local sort, long distance. -/
def ss (k d : ℕ) [SwapOk 256 d] (b : BitVec 1) (v : FVec F (Mat 256) .bf16) : FVec F (Mat 256) .bf16 :=
  exch (keepSort 256 k d b) v (swap 256 d v)
/-- A stage of a pair's merge, short distance. -/
def mr (d : ℕ) [RotOk 512 d] (b : BitVec 1) (v : FVec F (Mat 512) .bf16) : FVec F (Mat 512) .bf16 :=
  exch (keepMerge 512 d b) v (rot 512 d v)
/-- A stage of a pair's merge, long distance. -/
def ms (d : ℕ) [SwapOk 512 d] (b : BitVec 1) (v : FVec F (Mat 512) .bf16) : FVec F (Mat 512) .bf16 :=
  exch (keepMerge 512 d b) v (swap 512 d v)
/-- A stage of the last merge, short distance. -/
def fr (n d : ℕ) [MaskOk n] [RotOk n d] (v : FVec F (Mat n) .bf16) : FVec F (Mat n) .bf16 :=
  exch (bit n d) v (rot n d v)
/-- A stage of the last merge, long distance. -/
def fs (n d : ℕ) [MaskOk n] [SwapOk n d] (v : FVec F (Mat n) .bf16) : FVec F (Mat n) .bf16 :=
  exch (bit n d) v (swap n d v)

section Local
variable (b : BitVec 1) (x v : FVec F (Mat 256) .bf16)

theorem lp1 : k0_pay7 b (k0_pay3 b) (k0_pay5 x) (k0_pay6 x) = sr 4 2 b (sr 2 1 b (k0_pay2 x)) := rfl
theorem lp2 : k0_pay15 b (k0_pay11 b) (k0_pay13 v k0_pay8 (k0_pay9 b)) (k0_pay14 v k0_pay8 (k0_pay9 b)) =
    sr 8 2 b (sr 8 4 b (sr 4 1 b v)) := rfl
theorem lp3 : k0_pay23 b (k0_pay19 b) (k0_pay21 v k0_pay16 (k0_pay17 b)) (k0_pay22 v k0_pay16 (k0_pay17 b)) =
    sr 16 4 b (sr 16 8 b (sr 8 1 b v)) := rfl
theorem lp4 : k0_pay31 b (k0_pay27 b) (k0_pay29 v k0_pay24 (k0_pay25 b)) (k0_pay30 v k0_pay24 (k0_pay25 b)) =
    ss 32 16 b (sr 16 1 b (sr 16 2 b v)) := rfl
theorem lp4a : k0_pay34 b (k0_pay27 b) (k0_pay29 v k0_pay24 (k0_pay25 b)) (k0_pay30 v k0_pay24 (k0_pay25 b)) =
    extractStridedSlice (Mat 248) ![8, 0] (ss 32 16 b (sr 16 1 b (sr 16 2 b v))) (RotOk.hiTail (n := 256) (d := 8)) := rfl
theorem lp4b : k0_pay35 b (k0_pay27 b) (k0_pay29 v k0_pay24 (k0_pay25 b)) (k0_pay30 v k0_pay24 (k0_pay25 b)) =
    extractStridedSlice (Mat 8) ![0, 0] (ss 32 16 b (sr 16 1 b (sr 16 2 b v))) (RotOk.hiHead (n := 256) (d := 8)) := rfl
theorem lp5 : k0_pay36 b v (k0_pay32 b) k0_pay33 (extractStridedSlice (Mat 248) ![8, 0] v (RotOk.hiTail (n := 256) (d := 8)))
      (extractStridedSlice (Mat 8) ![0, 0] v (RotOk.hiHead (n := 256) (d := 8))) =
    sr 32 4 b (sr 32 8 b v) := rfl
theorem lp6 : k0_pay38 b v (iota .tc S256x1 32 [0] iota_S256x1_d0_w32) k0_pay37 32#32 = sr 32 2 b v := rfl
theorem lp6a : k0_pay41 b v (iota .tc S256x1 32 [0] iota_S256x1_d0_w32) k0_pay37 32#32 =
    extractStridedSlice (Mat 255) ![1, 0] (sr 32 2 b v) (RotOk.hiTail (n := 256) (d := 1)) := rfl
theorem lp6b : k0_pay42 b v (iota .tc S256x1 32 [0] iota_S256x1_d0_w32) k0_pay37 32#32 =
    extractStridedSlice (Mat 1) ![0, 0] (sr 32 2 b v) (RotOk.hiHead (n := 256) (d := 1)) := rfl
theorem lp7 : k0_pay43 b v (k0_pay39 b) k0_pay40 (extractStridedSlice (Mat 255) ![1, 0] v (RotOk.hiTail (n := 256) (d := 1)))
      (extractStridedSlice (Mat 1) ![0, 0] v (RotOk.hiHead (n := 256) (d := 1))) =
    ss 64 32 b (sr 32 1 b v) := rfl
theorem lp8 : k0_pay45 b v (k0_pay44 b) = sr 64 8 b (ss 64 16 b v) := rfl
theorem lp9 : k0_pay48 b v k0_pay46 k0_pay47 = sr 64 4 b v := rfl
theorem lp9a : k0_pay51 b v k0_pay46 k0_pay47 = up 256 2 (sr 64 4 b v) := rfl
theorem lp9b : k0_pay52 b v k0_pay46 k0_pay47 =
    extractStridedSlice (Mat 2) ![254, 0] (sr 64 4 b v) (RotOk.loTail (n := 256) (d := 2)) := rfl
theorem lp10 : k0_pay53 b v (k0_pay49 b) k0_pay50 (up 256 2 v)
      (extractStridedSlice (Mat 2) ![254, 0] v (RotOk.loTail (n := 256) (d := 2))) = sr 64 1 b (sr 64 2 b v) := rfl
theorem lp11 : k0_pay56 b v k0_pay54 k0_pay55 = ss 128 32 b (ss 128 64 b v) := rfl
theorem lp12 : k0_pay60 b v k0_pay57 k0_pay58 k0_pay59 = sr 128 8 b (ss 128 16 b v) := rfl
theorem lp13 : k0_pay62 b v (iota .tc S256x1 32 [0] iota_S256x1_d0_w32) k0_pay61 = sr 128 4 b v := rfl
theorem lp14 : k0_pay65 b v (k0_pay63 b) k0_pay64 = sr 128 1 b (sr 128 2 b v) := rfl
theorem lp15 : k0_pay67 b v (iota .tc S256x1 32 [0] iota_S256x1_d0_w32) k0_pay66 = ss 256 64 b (ss 256 128 b v) := rfl
theorem lp16 : k0_pay69 b v (iota .tc S256x1 32 [0] iota_S256x1_d0_w32) k0_pay68 0#32 = ss 256 16 b (ss 256 32 b v) := rfl
theorem lp17 : k0_pay71 b v (iota .tc S256x1 32 [0] iota_S256x1_d0_w32) k0_pay70 = sr 256 8 b v := rfl
theorem lp17a : k0_pay74 b v (iota .tc S256x1 32 [0] iota_S256x1_d0_w32) k0_pay70 =
    extractStridedSlice (Mat 252) ![4, 0] (sr 256 8 b v) (RotOk.hiTail (n := 256) (d := 4)) := rfl
theorem lp18 : k0_pay75 b v (k0_pay72 b) k0_pay73 (extractStridedSlice (Mat 252) ![4, 0] v (RotOk.hiTail (n := 256) (d := 4))) =
    sr 256 2 b (sr 256 4 b v) := rfl
theorem lp19 : k0_pay77 b v (iota .tc S256x1 32 [0] iota_S256x1_d0_w32) k0_pay76 = k0_pay2 (sr 256 1 b v) := rfl

end Local

section Pair
variable (w : BitVec 32) (v : FVec F (Mat 512) .bf16)

theorem mp1 : k0_pay78 w v = ms 128 (Scalar.cmpi .eq w 1#32) (ms 256 (Scalar.cmpi .eq w 1#32) v) := rfl
theorem mp2 : k0_pay85 w (k0_pay82 w v (Scalar.cmpi .eq w 1#32) (iota .tc S512x1 32 [0] iota_S512x1_d0_w32) k0_pay79)
      (k0_pay83 w v (Scalar.cmpi .eq w 1#32) (iota .tc S512x1 32 [0] iota_S512x1_d0_w32) k0_pay79) (k0_pay84 w) =
    mr 8 (Scalar.cmpi .eq w 1#32) (ms 16 (Scalar.cmpi .eq w 1#32)
      (ms 32 (Scalar.cmpi .eq w 1#32) (ms 64 (Scalar.cmpi .eq w 1#32) v))) := rfl
theorem mp2a : k0_pay87 w (k0_pay82 w v (Scalar.cmpi .eq w 1#32) (iota .tc S512x1 32 [0] iota_S512x1_d0_w32) k0_pay79)
      (k0_pay83 w v (Scalar.cmpi .eq w 1#32) (iota .tc S512x1 32 [0] iota_S512x1_d0_w32) k0_pay79) (k0_pay84 w) =
    up 512 4 (mr 8 (Scalar.cmpi .eq w 1#32) (ms 16 (Scalar.cmpi .eq w 1#32)
      (ms 32 (Scalar.cmpi .eq w 1#32) (ms 64 (Scalar.cmpi .eq w 1#32) v)))) := rfl
theorem mp2b : k0_pay88 w (k0_pay82 w v (Scalar.cmpi .eq w 1#32) (iota .tc S512x1 32 [0] iota_S512x1_d0_w32) k0_pay79)
      (k0_pay83 w v (Scalar.cmpi .eq w 1#32) (iota .tc S512x1 32 [0] iota_S512x1_d0_w32) k0_pay79) (k0_pay84 w) =
    down 512 4 (mr 8 (Scalar.cmpi .eq w 1#32) (ms 16 (Scalar.cmpi .eq w 1#32)
      (ms 32 (Scalar.cmpi .eq w 1#32) (ms 64 (Scalar.cmpi .eq w 1#32) v)))) := rfl
theorem mp3 : k0_pay90 w v (k0_pay86 w) (up 512 4 v) (down 512 4 v) k0_pay89 =
    mr 2 (Scalar.cmpi .eq w 1#32) (mr 4 (Scalar.cmpi .eq w 1#32) v) := rfl
theorem mp3a : k0_pay93 w v (k0_pay86 w) (up 512 4 v) (down 512 4 v) k0_pay89 =
    extractStridedSlice (Mat 511) ![1, 0] (mr 2 (Scalar.cmpi .eq w 1#32) (mr 4 (Scalar.cmpi .eq w 1#32) v))
      (RotOk.hiTail (n := 512) (d := 1)) := rfl
theorem mp4 : k0_pay94 v (k0_pay91 w) k0_pay92 (extractStridedSlice (Mat 511) ![1, 0] v (RotOk.hiTail (n := 512) (d := 1))) =
    k0_pay104 (mr 1 (Scalar.cmpi .eq w 1#32) v) := rfl

theorem op1 : k0_pay99 w (k0_pay95 w v (Scalar.cmpi .eq w 0#32)) (k0_pay96 w) (k0_pay97 w v (Scalar.cmpi .eq w 0#32))
      (k0_pay98 w v (Scalar.cmpi .eq w 0#32)) =
    ms 16 (Scalar.cmpi .eq w 0#32) (ms 32 (Scalar.cmpi .eq w 0#32)
      (ms 64 (Scalar.cmpi .eq w 0#32) (ms 128 (Scalar.cmpi .eq w 0#32) (ms 256 (Scalar.cmpi .eq w 0#32) v)))) := rfl
theorem op2 : k0_pay101 w v (k0_pay100 w) = mr 4 (Scalar.cmpi .eq w 0#32) (mr 8 (Scalar.cmpi .eq w 0#32) v) := rfl
theorem op3 : k0_pay103 w v (Scalar.cmpi .eq w 0#32) k0_pay102 =
    mr 1 (Scalar.cmpi .eq w 0#32) (mr 2 (Scalar.cmpi .eq w 0#32) v) := rfl

end Pair

section Last
variable (v : FVec F (Mat 256) .bf16)

theorem fp1 (z : FVec F (Mat 1024) .bf16) :
    k0_pay105 z = shapeCast S1024x128 (fs 1024 512 z) shapeCasts_S1024x128_S1024x128 := rfl
theorem fp2 (z : FVec F (Mat 512) .bf16) : k0_pay106 z = k0_pay104 (fs 512 256 z) := rfl
theorem fp3 : k0_pay107 v = fs 256 32 (fs 256 64 (fs 256 128 v)) := rfl
theorem fp4 : k0_pay110 v k0_pay108 k0_pay109 = fr 256 8 (fs 256 16 v) := rfl
theorem fp4a : k0_pay112 v k0_pay108 k0_pay109 = up 256 4 (fr 256 8 (fs 256 16 v)) := rfl
theorem fp4b : k0_pay113 v k0_pay108 k0_pay109 = down 256 4 (fr 256 8 (fs 256 16 v)) := rfl
theorem fp5 : k0_pay120 k0_pay116 (k0_pay118 v k0_pay111 (up 256 4 v) (down 256 4 v) k0_pay114)
      (k0_pay119 v k0_pay111 (up 256 4 v) (down 256 4 v) k0_pay114) = fr 256 1 (fr 256 2 (fr 256 4 v)) := rfl

end Last

end Cert.SortProof
-- ==== Proof.Flat.lean ====
/-
# `Flat`: the kernel's body as one sequence of memory operations

The printed body is cut into parts whose values cross from one to the next. Here it is one sequence: each stored
value is a function of the values loaded, named after what it computes — the local sort of a chunk, the merge of a
pair of chunks, and the stages of the last merge.
-/
module

public import proofs.«01_k».proof.Proof.Stage

@[expose] public section

noncomputable section

namespace Cert.SortProof

open Idealize.ShloMosaic Idealize.SL.Sem
open Cert.KernelIdeal Cert.KernelIdeal.Gen

variable {F : FTy → Type} [FloatOps F]

/-- The local bitonic sort of a chunk, descending when `b` is set. -/
def localSort (b : BitVec 1) (x : FVec F (Mat 256) .bf16) : FVec F (Mat 256) .bf16 :=
  let v := sr 2 1 b x
  let v := sr 4 1 b (sr 4 2 b v)
  let v := sr 8 1 b (sr 8 2 b (sr 8 4 b v))
  let v := sr 16 1 b (sr 16 2 b (sr 16 4 b (sr 16 8 b v)))
  let v := sr 32 1 b (sr 32 2 b (sr 32 4 b (sr 32 8 b (ss 32 16 b v))))
  let v := sr 64 1 b (sr 64 2 b (sr 64 4 b (sr 64 8 b (ss 64 16 b (ss 64 32 b v)))))
  let v := sr 128 1 b (sr 128 2 b (sr 128 4 b (sr 128 8 b (ss 128 16 b (ss 128 32 b (ss 128 64 b v))))))
  sr 256 1 b (sr 256 2 b (sr 256 4 b (sr 256 8 b (ss 256 16 b (ss 256 32 b (ss 256 64 b (ss 256 128 b v)))))))

/-- The bitonic merge of a pair of chunks, descending when `b` is set. -/
def pairMerge (b : BitVec 1) (v : FVec F (Mat 512) .bf16) : FVec F (Mat 512) .bf16 :=
  mr 1 b (mr 2 b (mr 4 b (mr 8 b (ms 16 b (ms 32 b (ms 64 b (ms 128 b (ms 256 b v))))))))

/-- The last merge within one chunk. -/
def chunkMerge (v : FVec F (Mat 256) .bf16) : FVec F (Mat 256) .bf16 :=
  fr 256 1 (fr 256 2 (fr 256 4 (fr 256 8 (fs 256 16 (fs 256 32 (fs 256 64 (fs 256 128 v)))))))

/-- Whether the device sorts its chunk descending, as the kernel computes it. -/
def flipWord (d0 : Dev nD) : BitVec 1 :=
  let v2 : BitVec 32 := Scalar.remsi (Scalar.divsi (Dev.word d0) 1#32) 4#32
  let v4 : BitVec 32 := Scalar.select (Scalar.cmpi .eq 2#32 0#32) 1#32 2#32
  let v5 : BitVec 32 := Scalar.remsi v2 v4
  Scalar.cmpi .eq (Scalar.select (Scalar.andi (Scalar.xori (Scalar.cmpi .slt v5 0#32) (Scalar.cmpi .slt v4 0#32))
    (Scalar.cmpi .ne v5 0#32)) (Scalar.addi v5 v4) v5) 1#32

/-- The pair the device belongs to, as the kernel computes it. -/
def pairWord (d0 : Dev nD) : BitVec 32 :=
  let v2 : BitVec 32 := Scalar.remsi (Scalar.divsi (Dev.word d0) 1#32) 4#32
  let v14 : BitVec 32 := Scalar.divsi v2 2#32
  let v19 : BitVec 32 := Scalar.subi (Scalar.extui (Scalar.cmpi .sgt v2 0#32)) (Scalar.extui (Scalar.cmpi .slt v2 0#32))
  let v24 : BitVec 32 := Scalar.subi (Scalar.extui (Scalar.cmpi .sgt 2#32 0#32)) (Scalar.extui (Scalar.cmpi .slt 2#32 0#32))
  Scalar.select (Scalar.andi (Scalar.cmpi .ne v19 v24) (Scalar.cmpi .ne (Scalar.remsi v2 2#32) 0#32))
    (Scalar.subi v14 1#32) v14

theorem flipWord_eq (c : Dev nD) : flipWord c = BitVec.ofNat 1 (c.val % 2) := by revert c; decide
theorem pairWord_eq (c : Dev nD) : pairWord c = BitVec.ofNat 32 (c.val / 2) := by revert c; decide

variable (arg0 : Memref sig .tc .vmem S256x128 .bf16) (harg0 : arg0.IsWhole)
  (arg1 : Memref sig .tc .vmem S256x128 .f32) (harg1 : arg1.IsWhole)
  (arg2 : Memref sig .tc .vmem S1024x128 .bf16) (harg2 : arg2.IsWhole)
  (arg3 : Memref sig .tc .vmem S1024x128 .bf16) (harg3 : arg3.IsWhole)
  (arg4 : DmaSems sig S3) (arg5 : DmaSems sig S4)

/-- The runtime's barrier semaphore. -/
abbrev barSem : Sem sig := (SemArray.scalar (sig.barrier 0 rfl) : Sems sig S_).sem

/-- The device's own chunk of the gather buffer, as the transfers name it. -/
abbrev ownRows (d0 : Dev nD) : Memref sig .tc .vmem S256x128 .bf16 :=
  arg2.slice (Rect.unit (s := S1024x128) (k0_off3 d0) S256x128.size (k0_off3_inb d0)) (fun _ => rfl)

/-- The `i`-th send semaphore. -/
def sendSem0 : DmaSem sig :=
  ((arg4.slice (Rect.unit (s := S3) ![0] S1.size inb_S3_S1_0)).squeeze S_ squeezes_S1_S_).sem
def sendSem1 : DmaSem sig :=
  ((arg4.slice (Rect.unit (s := S3) ![1] S1.size inb_S3_S1_1)).squeeze S_ squeezes_S1_S_).sem
def sendSem2 : DmaSem sig :=
  ((arg4.slice (Rect.unit (s := S3) ![2] S1.size inb_S3_S1_2)).squeeze S_ squeezes_S1_S_).sem
/-- The receive semaphore the device's own transfers credit. -/
def ownRecv (d0 : Dev nD) : DmaSem sig :=
  ((arg5.slice (Rect.unit (s := S4) (k0_off2 d0) S1.size (k0_off2_inb d0))).squeeze S_ squeezes_S1_S_).sem

/-- The body as one sequence. -/
def bodyFlat : Prog (TpuEff nD τ sig (Elt F) Λ₀ .tc) PUnit := do
  let d0 : Dev nD ← Prog.lift .deviceId
  semSignalWord (⟨k0_dev1 d0, k0_dev1_lt d0⟩ : Dev nD) barSem 1#32
  semSignalWord (⟨k0_dev2 d0, k0_dev2_lt d0⟩ : Dev nD) barSem 1#32
  semSignalWord (⟨k0_dev3 d0, k0_dev3_lt d0⟩ : Dev nD) barSem 1#32
  let x : Vec F S256x128 .bf16 ← Prog.lift (.load arg0 (Rect.unit (s := S256x128) ![0, 0] S256x128.size inb_S256x128_S256x128_0_0).toLoadRect (View.loadsAt_vmem h_S256x128))
  let _ ← Prog.lift (.load arg2 (Rect.unit (s := S1024x128) (k0_off1 d0) S256x128.size (k0_off1_inb d0)).toLoadRect (View.loadsAt_vmem h_S256x128))
  Prog.lift (.store arg2 (Rect.unit (s := S1024x128) (k0_off1 d0) S256x128.size (k0_off1_inb d0)) (k0_pay2 (localSort (flipWord d0) (k0_pay2 x))) Finset.univ (View.stores_vmem h_S256x128 (harg2.storeExact_slice rfl _ (k0_off1_packedbf16 d0)) (fun _ => rfl)) (.inl rfl))
  semWaitWord barSem 3#32
  Prog.lift (.enqueueDma (ownRows arg2 d0) (.remote (Dev.tc (⟨k0_dev4 d0, k0_dev4_lt d0⟩ : Dev nD)) (ownRows arg2 d0) (.dma (sendSem0 arg4))) (.dma (ownRecv arg5 d0)) (harg2.wordExact_slice rfl _ (k0_off3_wordsbf16 d0)) (harg2.wordExact_slice rfl _ (k0_off3_wordsbf16 d0)) ⟨⟨rfl, Or.inl rfl⟩, trivial⟩)
  Prog.lift (.enqueueDma (ownRows arg2 d0) (.remote (Dev.tc (⟨k0_dev5 d0, k0_dev5_lt d0⟩ : Dev nD)) (ownRows arg2 d0) (.dma (sendSem1 arg4))) (.dma (ownRecv arg5 d0)) (harg2.wordExact_slice rfl _ (k0_off3_wordsbf16 d0)) (harg2.wordExact_slice rfl _ (k0_off3_wordsbf16 d0)) ⟨⟨rfl, Or.inl rfl⟩, trivial⟩)
  Prog.lift (.enqueueDma (ownRows arg2 d0) (.remote (Dev.tc (⟨k0_dev6 d0, k0_dev6_lt d0⟩ : Dev nD)) (ownRows arg2 d0) (.dma (sendSem2 arg4))) (.dma (ownRecv arg5 d0)) (harg2.wordExact_slice rfl _ (k0_off3_wordsbf16 d0)) (harg2.wordExact_slice rfl _ (k0_off3_wordsbf16 d0)) ⟨⟨rfl, Or.inl rfl⟩, trivial⟩)
  Prog.lift (.waitDma2 (((arg5.slice (Rect.unit (s := S4) (k0_off4 d0 1#32) S1.size (k0_off4_inb d0 0))).squeeze S_ squeezes_S1_S_).sem) (arg2.slice (Rect.unit (s := S1024x128) (k0_off5 d0 1#32) S256x128.size (k0_off5_inb d0 0)) (fun _ => rfl)) (arg2.slice (Rect.unit (s := S1024x128) (k0_off5 d0 1#32) S256x128.size (k0_off5_inb d0 0)) (fun _ => rfl)) (harg2.wordExact_slice rfl _ (k0_off5_wordsbf16 d0 0)) (harg2.wordExact_slice rfl _ (k0_off5_wordsbf16 d0 0)))
  let g : Vec F S512x128 .bf16 ← Prog.lift (.load arg2 (Rect.unit (s := S1024x128) (k0_off6 d0) S512x128.size (k0_off6_inb d0)).toLoadRect (View.loadsAt_vmem h_S512x128))
  let _ ← Prog.lift (.load arg3 (Rect.unit (s := S1024x128) (k0_off6 d0) S512x128.size (k0_off6_inb d0)).toLoadRect (View.loadsAt_vmem h_S512x128))
  Prog.lift (.store arg3 (Rect.unit (s := S1024x128) (k0_off6 d0) S512x128.size (k0_off6_inb d0)) (k0_pay104 (pairMerge (Scalar.cmpi .eq (pairWord d0) 1#32) g)) Finset.univ (View.stores_vmem h_S512x128 (harg3.storeExact_slice rfl _ (k0_off6_packedbf16 d0)) (fun _ => rfl)) (.inl rfl))
  Prog.lift (.waitDma2 (((arg5.slice (Rect.unit (s := S4) (k0_off4 d0 2#32) S1.size (k0_off4_inb d0 1))).squeeze S_ squeezes_S1_S_).sem) (arg2.slice (Rect.unit (s := S1024x128) (k0_off5 d0 2#32) S256x128.size (k0_off5_inb d0 1)) (fun _ => rfl)) (arg2.slice (Rect.unit (s := S1024x128) (k0_off5 d0 2#32) S256x128.size (k0_off5_inb d0 1)) (fun _ => rfl)) (harg2.wordExact_slice rfl _ (k0_off5_wordsbf16 d0 1)) (harg2.wordExact_slice rfl _ (k0_off5_wordsbf16 d0 1)))
  Prog.lift (.waitDma2 (((arg5.slice (Rect.unit (s := S4) (k0_off4 d0 3#32) S1.size (k0_off4_inb d0 2))).squeeze S_ squeezes_S1_S_).sem) (arg2.slice (Rect.unit (s := S1024x128) (k0_off5 d0 3#32) S256x128.size (k0_off5_inb d0 2)) (fun _ => rfl)) (arg2.slice (Rect.unit (s := S1024x128) (k0_off5 d0 3#32) S256x128.size (k0_off5_inb d0 2)) (fun _ => rfl)) (harg2.wordExact_slice rfl _ (k0_off5_wordsbf16 d0 2)) (harg2.wordExact_slice rfl _ (k0_off5_wordsbf16 d0 2)))
  let g' : Vec F S512x128 .bf16 ← Prog.lift (.load arg2 (Rect.unit (s := S1024x128) (k0_off7 d0) S512x128.size (k0_off7_inb d0)).toLoadRect (View.loadsAt_vmem h_S512x128))
  let _ ← Prog.lift (.load arg3 (Rect.unit (s := S1024x128) (k0_off7 d0) S512x128.size (k0_off7_inb d0)).toLoadRect (View.loadsAt_vmem h_S512x128))
  Prog.lift (.store arg3 (Rect.unit (s := S1024x128) (k0_off7 d0) S512x128.size (k0_off7_inb d0)) (k0_pay104 (pairMerge (Scalar.cmpi .eq (pairWord d0) 0#32) g')) Finset.univ (View.stores_vmem h_S512x128 (harg3.storeExact_slice rfl _ (k0_off7_packedbf16 d0)) (fun _ => rfl)) (.inl rfl))
  let z : Vec F S1024x128 .bf16 ← Prog.lift (.load arg3 (Rect.unit (s := S1024x128) ![0, 0] S1024x128.size inb_S1024x128_S1024x128_0_0).toLoadRect (View.loadsAt_vmem h_S1024x128))
  let _ ← Prog.lift (.load arg3 (Rect.unit (s := S1024x128) ![0, 0] S1024x128.size inb_S1024x128_S1024x128_0_0).toLoadRect (View.loadsAt_vmem h_S1024x128))
  Prog.lift (.store arg3 (Rect.unit (s := S1024x128) ![0, 0] S1024x128.size inb_S1024x128_S1024x128_0_0) (k0_pay105 z) Finset.univ (View.stores_vmem h_S1024x128 (harg3.storeExact_slice rfl _ packedbf16_S1024x128_S1024x128_0_0) (fun _ => rfl)) (.inl rfl))
  let y : Vec F S512x128 .bf16 ← Prog.lift (.load arg3 (Rect.unit (s := S1024x128) (k0_off6 d0) S512x128.size (k0_off6_inb d0)).toLoadRect (View.loadsAt_vmem h_S512x128))
  let _ ← Prog.lift (.load arg3 (Rect.unit (s := S1024x128) (k0_off6 d0) S512x128.size (k0_off6_inb d0)).toLoadRect (View.loadsAt_vmem h_S512x128))
  Prog.lift (.store arg3 (Rect.unit (s := S1024x128) (k0_off6 d0) S512x128.size (k0_off6_inb d0)) (k0_pay106 y) Finset.univ (View.stores_vmem h_S512x128 (harg3.storeExact_slice rfl _ (k0_off6_packedbf16 d0)) (fun _ => rfl)) (.inl rfl))
  let w : Vec F S256x128 .bf16 ← Prog.lift (.load arg3 (Rect.unit (s := S1024x128) (k0_off1 d0) S256x128.size (k0_off1_inb d0)).toLoadRect (View.loadsAt_vmem h_S256x128))
  Prog.lift (.waitDma2 (sendSem0 arg4) (ownRows arg2 d0) (ownRows arg2 d0) (harg2.wordExact_slice rfl _ (k0_off3_wordsbf16 d0)) (harg2.wordExact_slice rfl _ (k0_off3_wordsbf16 d0)))
  Prog.lift (.waitDma2 (sendSem1 arg4) (ownRows arg2 d0) (ownRows arg2 d0) (harg2.wordExact_slice rfl _ (k0_off3_wordsbf16 d0)) (harg2.wordExact_slice rfl _ (k0_off3_wordsbf16 d0)))
  Prog.lift (.waitDma2 (sendSem2 arg4) (ownRows arg2 d0) (ownRows arg2 d0) (harg2.wordExact_slice rfl _ (k0_off3_wordsbf16 d0)) (harg2.wordExact_slice rfl _ (k0_off3_wordsbf16 d0)))
  let _ ← Prog.lift (.load arg1 (Rect.unit (s := S256x128) ![0, 0] S256x128.size inb_S256x128_S256x128_0_0).toLoadRect (View.loadsAt_vmem h_S256x128))
  Prog.lift (.store arg1 (Rect.unit (s := S256x128) ![0, 0] S256x128.size inb_S256x128_S256x128_0_0) (k0_pay1 (chunkMerge w)) Finset.univ (View.stores_vmem_bits_univ h_S256x128 rfl) (.inl rfl))
  pure ⟨⟩

set_option maxRecDepth 65536 in
set_option maxHeartbeats 4000000 in
/-- The printed body is that sequence. -/
theorem body_eq_flat : cc0_body (F := F) arg0 harg0 arg1 harg1 arg2 harg2 arg3 harg3 arg4 arg5 =
    bodyFlat arg0 arg1 arg2 harg2 arg3 harg3 arg4 arg5 := by
  rw [cc0_body_eq_skeleton]
  unfold cc0_body_skel bodyFlat
  simp only [k0_part39_eq_skeleton, k0_part39_skel, k0_part1_eq_skeleton, k0_part1_skel, k0_part2_eq_skeleton, k0_part2_skel,
    k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel,
    k0_part12_eq_skeleton, k0_part12_skel, k0_part13_eq_skeleton, k0_part13_skel, k0_part14_eq_skeleton, k0_part14_skel,
    k0_part15_eq_skeleton, k0_part15_skel, k0_part16_eq_skeleton, k0_part16_skel, k0_part17_eq_skeleton, k0_part17_skel,
    k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel,
    k0_part24_eq_skeleton, k0_part24_skel, k0_part25_eq_skeleton, k0_part25_skel, k0_part26_eq_skeleton, k0_part26_skel,
    k0_part27_eq_skeleton, k0_part27_skel, k0_part28_eq_skeleton, k0_part28_skel, k0_part29_eq_skeleton, k0_part29_skel,
    k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel,
    k0_part36_eq_skeleton, k0_part36_skel, k0_part37_eq_skeleton, k0_part37_skel, k0_part38_eq_skeleton, k0_part38_skel,
    bind_assoc, pure_bind]
  simp only [lp1, lp2, lp3, lp4, lp4a, lp4b, lp5, lp6, lp6a, lp6b, lp7, lp8, lp9, lp9a, lp9b, lp10, lp11, lp12, lp13,
    lp14, lp15, lp16, lp17, lp17a, lp18, lp19, mp1, mp2, mp2a, mp2b, mp3, mp3a, mp4, op1, op2, op3, fp3, fp4, fp4a,
    fp4b, fp5]
  rfl

end Cert.SortProof
-- ==== Proof.Contents.lean ====
/-
# `Contents`: rows of the two exchange buffers, and what each buffer holds

A window of whole rows of a 1024-row buffer: its set of positions, what reading and writing it does. Then the values of
the run: the sorted chunks, the gathered rows, the merged pairs and the chunk each device returns.
-/
module

public import proofs.«01_k».proof.Proof.Flat
public import Idealize.ShloMosaic.Lib.Pipeline.Value

@[expose] public section

noncomputable section

namespace Cert.SortProof

open Idealize.ShloMosaic Idealize.SL.Sem
open Cert.KernelIdeal Cert.KernelIdeal.Gen

variable {F : FTy → Type} [FloatOps F]

/-! ## Positions -/

/-- The position at row `r` and lane `l`. -/
def at2 {n : ℕ} (r : Fin n) (l : Fin 128) : (Mat n).Idx := Fin.cons r (Fin.cons l fun a => a.elim0)

/-- The row of a position. -/
def rowOf {n : ℕ} (i : (Mat n).Idx) : Fin n := i 0
/-- The lane of a position. -/
def laneOf {n : ℕ} (i : (Mat n).Idx) : Fin 128 := i 1

@[simp] theorem rowOf_at2 {n : ℕ} (r : Fin n) (l : Fin 128) : rowOf (at2 r l) = r := rfl
@[simp] theorem laneOf_at2 {n : ℕ} (r : Fin n) (l : Fin 128) : laneOf (at2 r l) = l := rfl
theorem at2_eta {n : ℕ} (i : (Mat n).Idx) : at2 (rowOf i) (laneOf i) = i := by
  funext a; match a with | 0 => rfl | 1 => rfl
theorem at2_ext {n : ℕ} {i j : (Mat n).Idx} (h : (rowOf i).val = (rowOf j).val) (h' : (laneOf i).val = (laneOf j).val) : i = j := by
  rw [← at2_eta i, ← at2_eta j, Fin.ext h, Fin.ext h']

/-- The positions of the rows `a ≤ r < a + n` of a 1024-row buffer. -/
def rowsAt (a n : ℕ) : Finset (Mat 1024).Idx := Finset.univ.filter fun i => a ≤ (rowOf i).val ∧ (rowOf i).val < a + n

theorem mem_rowsAt {a n : ℕ} {i : (Mat 1024).Idx} : i ∈ rowsAt a n ↔ a ≤ (rowOf i).val ∧ (rowOf i).val < a + n := by
  unfold rowsAt; rw [Finset.mem_filter]; exact ⟨fun h => h.2, fun h => ⟨Finset.mem_univ _, h⟩⟩

/-- The rows of chunk `o`. -/
abbrev rows (o : Dev nD) : Finset (Mat 1024).Idx := rowsAt (256 * o.val) 256

theorem rows_disjoint {o o' : Dev nD} (h : o ≠ o') : Disjoint (rows o) (rows o') := by
  rw [Finset.disjoint_left]; intro i hi hi'
  rw [mem_rowsAt] at hi hi'
  exact h (Fin.ext (by omega))

theorem rows_cover (i : (Mat 1024).Idx) : ∃ o : Dev nD, i ∈ rows o := by
  have := (rowOf i).isLt
  refine ⟨⟨(rowOf i).val / 256, by show _ < 4; omega⟩, ?_⟩
  rw [mem_rowsAt]; dsimp only; omega

/-- The rows `a ≤ r < a + n` read out of a 1024-row buffer. -/
def rowsOf {α : Type} (a n : ℕ) (h : a + n ≤ 1024) (f : (Mat 1024).Idx → α) : (Mat n).Idx → α :=
  fun j => f (at2 ⟨a + (rowOf j).val, by have := (rowOf j).isLt; omega⟩ (laneOf j))

/-- A 1024-row buffer with the rows `a ≤ r < a + n` replaced. -/
def setRows {α : Type} (a n : ℕ) (f : (Mat 1024).Idx → α) (w : (Mat n).Idx → α) : (Mat 1024).Idx → α :=
  fun i => if h : a ≤ (rowOf i).val ∧ (rowOf i).val < a + n then w (at2 ⟨(rowOf i).val - a, by omega⟩ (laneOf i)) else f i

section Window
variable {a n : ℕ} (off : Fin 2 → ℕ) (hoff : off = ![a, 0])
  (hinb : ∀ x, off x + (Mat n).size x ≤ S1024x128.size x) (b : Ref sig .tc)
include hoff

theorem rect_set : (Rect.unit (s := S1024x128) off (Mat n).size hinb).set = rowsAt a n := by
  subst hoff
  ext i
  rw [Rect.mem_set_unit, mem_rowsAt]
  constructor
  · intro h; exact h 0
  · intro h x
    match x with
    | 0 => exact h
    | 1 => exact ⟨Nat.zero_le _, by have := (laneOf i).isLt; show (laneOf i).val < 0 + 128; omega⟩

theorem rect_emb (h : a + n ≤ 1024) (j : (Mat n).Idx) :
    (Rect.unit (s := S1024x128) off (Mat n).size hinb).emb j
      = at2 ⟨a + (rowOf j).val, by have := (rowOf j).isLt; omega⟩ (laneOf j) := by
  subst hoff
  refine at2_ext ?_ ?_
  · show a + 1 * (rowOf j).val = a + (rowOf j).val; omega
  · show 0 + 1 * (laneOf j).val = (laneOf j).val; omega
end Window

/-- The 1024-row buffers, as the body names them. -/
abbrev gM : Memref sig .tc .vmem S1024x128 .bf16 := Memref.whole cc0_scratch0
abbrev mM : Memref sig .tc .vmem S1024x128 .bf16 := Memref.whole cc0_scratch1

section Access
variable {a n : ℕ} (off : Fin 2 → ℕ) (hoff : off = ![a, 0])
  (hinb : ∀ x, off x + (Mat n).size x ≤ S1024x128.size x) (h : a + n ≤ 1024)
include hoff

theorem g_set : (gM.access (Rect.unit (s := S1024x128) off (Mat n).size hinb)).set = rowsAt a n := by
  show (((View.whole cc0_scratch0).slice _).set) = _
  rw [View.set_slice_whole]; exact rect_set off hoff hinb
theorem m_set : (mM.access (Rect.unit (s := S1024x128) off (Mat n).size hinb)).set = rowsAt a n := by
  show (((View.whole cc0_scratch1).slice _).set) = _
  rw [View.set_slice_whole]; exact rect_set off hoff hinb

theorem g_read (f : (cc0_scratch0 : Ref sig .tc).ty.Contents (Elt F)) :
    (gM.access (Rect.unit (s := S1024x128) off (Mat n).size hinb)).read (Elt F) f = rowsOf a n h f := by
  funext j
  exact congrArg f (rect_emb off hoff hinb h j)
theorem m_read (f : (cc0_scratch1 : Ref sig .tc).ty.Contents (Elt F)) :
    (mM.access (Rect.unit (s := S1024x128) off (Mat n).size hinb)).read (Elt F) f = rowsOf a n h f := by
  funext j
  exact congrArg f (rect_emb off hoff hinb h j)

include h in
theorem g_write (f : (cc0_scratch0 : Ref sig .tc).ty.Contents (Elt F)) (w : Vec F (Mat n) .bf16) :
    (gM.access (Rect.unit (s := S1024x128) off (Mat n).size hinb)).write (Elt F) f w Finset.univ = setRows a n f w := by
  funext i
  unfold setRows
  split_ifs with hi
  · have he : (gM.access (Rect.unit (s := S1024x128) off (Mat n).size hinb)).emb (at2 ⟨(rowOf i).val - a, by omega⟩ (laneOf i)) = i := by
      refine (rect_emb off hoff hinb h _).trans (at2_ext ?_ rfl)
      show a + ((rowOf i).val - a) = _; omega
    conv_lhs => rw [← he]
    exact View.write_emb_of_mem _ _ (Finset.mem_univ _)
  · refine View.write_of_not_mem _ _ _ ?_
    rw [View.setOn_univ, g_set off hoff hinb, mem_rowsAt]; exact hi
include h in
theorem m_write (f : (cc0_scratch1 : Ref sig .tc).ty.Contents (Elt F)) (w : Vec F (Mat n) .bf16) :
    (mM.access (Rect.unit (s := S1024x128) off (Mat n).size hinb)).write (Elt F) f w Finset.univ = setRows a n f w := by
  funext i
  unfold setRows
  split_ifs with hi
  · have he : (mM.access (Rect.unit (s := S1024x128) off (Mat n).size hinb)).emb (at2 ⟨(rowOf i).val - a, by omega⟩ (laneOf i)) = i := by
      refine (rect_emb off hoff hinb h _).trans (at2_ext ?_ rfl)
      show a + ((rowOf i).val - a) = _; omega
    conv_lhs => rw [← he]
    exact View.write_emb_of_mem _ _ (Finset.mem_univ _)
  · refine View.write_of_not_mem _ _ _ ?_
    rw [View.setOn_univ, m_set off hoff hinb, mem_rowsAt]; exact hi
end Access

/-! ## The offsets and the peers -/

/-- The device `k + 1` apart under exclusive or. -/
def px (k : Fin 3) (c : Dev nD) : Dev nD := ⟨(c.val ^^^ (k.val + 1)) % 4, Nat.mod_lt _ (by decide)⟩
/-- The device `k + 1` places after `c` round the four. -/
def nx (k : Fin 3) (c : Dev nD) : Dev nD := ⟨(c.val + (k.val + 1)) % 4, Nat.mod_lt _ (by decide)⟩

theorem px_px (k : Fin 3) (c : Dev nD) : px k (px k c) = c := by revert k c; decide
theorem px_ne (k : Fin 3) (c : Dev nD) : px k c ≠ c := by revert k c; decide
theorem nx_ne (k : Fin 3) (c : Dev nD) : nx k c ≠ c := by revert k c; decide

theorem dev1_eq (c : Dev nD) : (⟨k0_dev1 c, k0_dev1_lt c⟩ : Dev nD) = nx 0 c := by revert c; decide
theorem dev2_eq (c : Dev nD) : (⟨k0_dev2 c, k0_dev2_lt c⟩ : Dev nD) = nx 1 c := by revert c; decide
theorem dev3_eq (c : Dev nD) : (⟨k0_dev3 c, k0_dev3_lt c⟩ : Dev nD) = nx 2 c := by revert c; decide
theorem dev4_eq (c : Dev nD) : (⟨k0_dev4 c, k0_dev4_lt c⟩ : Dev nD) = px 0 c := by revert c; decide
theorem dev5_eq (c : Dev nD) : (⟨k0_dev5 c, k0_dev5_lt c⟩ : Dev nD) = px 1 c := by revert c; decide
theorem dev6_eq (c : Dev nD) : (⟨k0_dev6 c, k0_dev6_lt c⟩ : Dev nD) = px 2 c := by revert c; decide

/-- The pair of chunks device `c` belongs to, and the other pair. -/
def pr (c : Dev nD) : Fin 2 := ⟨c.val / 2, by have : c.val < 4 := c.isLt; omega⟩
def pr' (c : Dev nD) : Fin 2 := ⟨1 - c.val / 2, by omega⟩

theorem off6_eq (c : Dev nD) : k0_off6 c = ![512 * (pr c).val, 0] := by revert c; decide
theorem off7_eq (c : Dev nD) : k0_off7 c = ![512 * (pr' c).val, 0] := by revert c; decide
theorem flag_own (c : Dev nD) : Scalar.cmpi .eq (pairWord c) 1#32 = BitVec.ofNat 1 (pr c).val := by revert c; decide
theorem flag_other (c : Dev nD) : Scalar.cmpi .eq (pairWord c) 0#32 = BitVec.ofNat 1 (pr' c).val := by revert c; decide

/-! ## What the buffers hold -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s chunk of the input, staged. -/
def xstg (c : Dev nD) : (cc0_stg0_0 : Ref sig .tc).ty.Contents (Elt F) :=
  (win0_0.blk (0 : Fin 1)).view.read (Elt F) ((s₀ m ρ).mem (c.tc.loc main_arg0))

/-- Device `o`'s chunk after its local sort. -/
def sorted (o : Dev nD) : FVec F (Mat 256) .bf16 := localSort (flipWord o) (xstg m ρ o)

/-- The chunk a position of a 1024-row buffer lies in. -/
def chunkOf (i : (Mat 1024).Idx) : Dev nD := ⟨(rowOf i).val / 256, by have := (rowOf i).isLt; show _ < 4; omega⟩
/-- The pair of chunks a position of a 1024-row buffer lies in. -/
def pairOf (i : (Mat 1024).Idx) : Fin 2 := ⟨(rowOf i).val / 512, by have := (rowOf i).isLt; omega⟩

/-- The gather buffer once all four chunks are in. -/
def gath : FVec F (Mat 1024) .bf16 :=
  fun i => sorted m ρ (chunkOf i) (at2 ⟨(rowOf i).val % 256, Nat.mod_lt _ (by decide)⟩ (laneOf i))

/-- Half `p` of a 1024-row value, and chunk `c` of it. -/
def half {α : Type} (p : Fin 2) (f : (Mat 1024).Idx → α) : (Mat 512).Idx → α := rowsOf (512 * p.val) 512 (by omega) f
def quarter {α : Type} (c : Dev nD) (f : (Mat 1024).Idx → α) : (Mat 256).Idx → α :=
  rowsOf (256 * c.val) 256 (by have : c.val < 4 := c.isLt; omega) f

/-- The two merged pairs: pair 0 ascending, pair 1 descending. -/
def merged : FVec F (Mat 1024) .bf16 :=
  fun i => pairMerge (BitVec.ofNat 1 (pairOf i).val) (half (pairOf i) (gath m ρ))
    (at2 ⟨(rowOf i).val % 512, Nat.mod_lt _ (by decide)⟩ (laneOf i))

/-- The last merge's first two stages: over all the rows, then over the device's own half. -/
def last1 : FVec F (Mat 1024) .bf16 := fs 1024 512 (merged m ρ)
def last2 (c : Dev nD) : FVec F (Mat 1024) .bf16 :=
  setRows (512 * (pr c).val) 512 (last1 m ρ) (fs 512 256 (half (pr c) (last1 m ρ)))

/-- What device `c` returns. -/
def outAt (c : Dev nD) : (cc0_stg1_0 : Ref sig .tc).ty.Contents (Elt F) := k0_pay1 (chunkMerge (quarter c (last2 m ρ c)))

theorem pay2_eq (x : Vec F S256x128 .bf16) : k0_pay2 x = x := shapeCast_self _ _
theorem pay104_eq (x : Vec F S512x128 .bf16) : k0_pay104 x = x := shapeCast_self _ _
theorem pay105_eq (z : Vec F S1024x128 .bf16) : k0_pay105 z = fs 1024 512 z := (fp1 z).trans (shapeCast_self _ _)
theorem pay106_eq (z : Vec F S512x128 .bf16) : k0_pay106 z = fs 512 256 z := (fp2 z).trans (pay104_eq _)

/-- The device's own store leaves its rows of the gathered value. -/
theorem setRows_gath (c : Dev nD) (f : (Mat 1024).Idx → Elt F .bf16) :
    ∀ i ∈ rows c, setRows (256 * c.val) 256 f (sorted m ρ c) i = gath m ρ i := by
  intro i hi
  rw [mem_rowsAt] at hi
  unfold setRows gath
  rw [dif_pos hi]
  have hc : chunkOf i = c := Fin.ext (by show (rowOf i).val / 256 = c.val; omega)
  rw [hc]
  exact congrArg _ (at2_ext (by show (rowOf i).val - 256 * c.val = (rowOf i).val % 256; omega) rfl)

/-- After both pairs are merged and stored the buffer holds the merged value. -/
theorem setRows_merged (c : Dev nD) (f : (Mat 1024).Idx → Elt F .bf16) :
    setRows (512 * (pr' c).val) 512
        (setRows (512 * (pr c).val) 512 f (pairMerge (BitVec.ofNat 1 (pr c).val) (half (pr c) (gath m ρ))))
        (pairMerge (BitVec.ofNat 1 (pr' c).val) (half (pr' c) (gath m ρ)))
      = merged m ρ := by
  funext i
  have hv : (pr c).val + (pr' c).val = 1 := by revert c; decide
  have hlt := (rowOf i).isLt
  unfold setRows merged
  split_ifs with h1 h2
  · have hp : pairOf i = pr' c := Fin.ext (by show (rowOf i).val / 512 = (pr' c).val; omega)
    rw [hp]
    exact congrArg _ (at2_ext (by show (rowOf i).val - 512 * (pr' c).val = (rowOf i).val % 512; omega) rfl)
  · have hp : pairOf i = pr c := Fin.ext (by show (rowOf i).val / 512 = (pr c).val; omega)
    rw [hp]
    exact congrArg _ (at2_ext (by show (rowOf i).val - 512 * (pr c).val = (rowOf i).val % 512; omega) rfl)
  · omega

end Cert.SortProof
-- ==== Proof.Protocol.lean ====
/-
# `Protocol`: how the four devices exchange their chunks

Every device's barrier semaphore takes one unit from each of the three others; that unit hands over the rows of the
payer's gather buffer its receiver will write. A transfer's send semaphore gives the lent share of the source rows back,
its receive semaphore gives the rows that landed. Each of these cells has one round of duties, named after the device
that pays.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.SortProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The pipeline library's resources beside the exchange's, whose duties are named by devices. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

/-- The send semaphore of transfer `k`, and the receive semaphore of the chunk of device `o`. -/
abbrev sS (k : Fin 3) : DmaSem sig := ⟨k.val + 2, by have := k.isLt; show _ < 9; omega⟩
abbrev rS (o : Dev nD) : DmaSem sig := ⟨o.val + 3 + 2, by have : o.val < 4 := o.isLt; show _ < 9; omega⟩

theorem sendSem0_eq : sendSem0 cc0_scratch2 = sS 0 := by decide
theorem sendSem1_eq : sendSem1 cc0_scratch2 = sS 1 := by decide
theorem sendSem2_eq : sendSem2 cc0_scratch2 = sS 2 := by decide
theorem ownRecv_eq (c : Dev nD) : ownRecv cc0_scratch3 c = rS c := by revert c; decide
theorem recvSem1_eq (c : Dev nD) : ((cc0_scratch3.slice (Rect.unit (s := S4) (k0_off4 c 1#32) S1.size (k0_off4_inb c 0))).squeeze S_ squeezes_S1_S_).sem
    = rS (px 0 c) := by revert c; decide
theorem recvSem2_eq (c : Dev nD) : ((cc0_scratch3.slice (Rect.unit (s := S4) (k0_off4 c 2#32) S1.size (k0_off4_inb c 1))).squeeze S_ squeezes_S1_S_).sem
    = rS (px 1 c) := by revert c; decide
theorem recvSem3_eq (c : Dev nD) : ((cc0_scratch3.slice (Rect.unit (s := S4) (k0_off4 c 3#32) S1.size (k0_off4_inb c 2))).squeeze S_ squeezes_S1_S_).sem
    = rS (px 2 c) := by revert c; decide

abbrev barCell (c : Dev nD) : GSem nD τ sig := ((c : Thread nD τ), .reg barSem)
abbrev sCell (k : Fin 3) (c : Dev nD) : GSem nD τ sig := ((c : Thread nD τ), .dma (sS k))
abbrev rCell (o c : Dev nD) : GSem nD τ sig := ((c : Thread nD τ), .dma (rS o))

/-- A device's own transfer semaphores, and with the barrier in front all the cells of the exchange. -/
abbrev osem (k : Fin 7) : SemLoc sig := .dma ⟨k.val + 2, by have := k.isLt; show _ < 9; omega⟩
abbrev csem : Fin 8 → SemLoc sig := Fin.cases (.reg barSem) osem
abbrev kcell (ck : Dev nD × Fin 8) : GSem nD τ sig := ((ck.1 : Thread nD τ), csem ck.2)
/-- Where the send and the receive cells stand among them. -/
abbrev sIx (k : Fin 3) : Fin 8 := Fin.succ (⟨k.val, by omega⟩ : Fin 7)
abbrev rIx (o : Dev nD) : Fin 8 := Fin.succ (⟨o.val + 3, by have : o.val < 4 := o.isLt; omega⟩ : Fin 7)

/-- The device whose chunk a receive semaphore is for, and the transfer a send semaphore is for. -/
def originOf (q : DmaSem sig) : Dev nD := ⟨(q.val - 5) % 4, Nat.mod_lt _ (by decide)⟩
def sendOf (q : DmaSem sig) : Fin 3 := ⟨(q.val - 2) % 3, Nat.mod_lt _ (by decide)⟩
theorem originOf_rS (o : Dev nD) : originOf (rS o) = o := by revert o; decide
theorem sendOf_sS (k : Fin 3) : sendOf (sS k) = k := by revert k; decide

/-- The bytes of one chunk, as a transfer credits them. -/
abbrev N : ℕ := (ownRows gM (0 : Dev nD)).view.dmaCredit
theorem N_pos : 0 < N := View.dmaCredit_pos _ (by decide)

/-! ## Rows of a gather buffer -/

/-- The rows of chunk `o` of device `d`'s gather buffer, held at share `q` with contents `f`. -/
def rowsPts (d o : Dev nD) (q : PosShare TreeShare) (f : Buf (Elt F) ((d : Thread nD τ).loc cc0_scratch0)) : sProp 𝕄 :=
  ((d : Thread nD τ).loc cc0_scratch0) ↦[rows o]{q} f

omit [FloatOps F] in
instance rowsPts_storable (d o : Dev nD) (q) (f) : BI.Storable (upEmb : UEmb _ 𝕄) (rowsPts (F := F) d o q f) := by
  unfold rowsPts; infer_instance

/-- The share of the source rows lent to transfer `k`. -/
def shareOf (k : Fin 3) : PosShare TreeShare :=
  match k with
  | 0 => fullShare.right.left
  | 1 => fullShare.right.right.left
  | 2 => fullShare.right.right.right

/-! ## The schedule -/

def xchg : Rounds.Schedule (GSem nD τ sig) (Dev nD) 𝕄 where
  duties g r := if r = 0 ∧ g.1.2 = .tc then
      (match g.2 with
        | .reg _ => Finset.univ.erase g.1.1
        | .dma q => if q.val < 2 then ∅ else if q.val < 5 then {g.1.1} else ({originOf q} : Finset (Dev nD)).erase g.1.1)
    else ∅
  unitless _ := False
  amount g _ _ := match g.2 with | .reg _ => 1 | .dma _ => N
  payload g _ d := match g.2 with
    | .reg _ => iprop(∃ f, rowsPts d g.1.1 fullShare f)
    | .dma q => if q.val < 5 then rowsPts g.1.1 g.1.1 (shareOf (sendOf q)) (gath m ρ)
        else rowsPts g.1.1 (originOf q) fullShare (gath m ρ)
  amount_pos g _ _ _ := by
    rcases g with ⟨_, _ | _⟩
    · exact Nat.one_pos
    · exact N_pos

instance xchg_payload_storable (g : GSem nD τ sig) (r : ℕ) (d : Dev nD) :
    BI.Storable (upEmb : UEmb _ 𝕄) ((xchg (F := F) m ρ).payload g r d) := by
  rcases g with ⟨t, s | q⟩
  · show BI.Storable upEmb (iprop(∃ f, rowsPts d t.1 fullShare f)); infer_instance
  · show BI.Storable upEmb (if q.val < 5 then rowsPts t.1 t.1 (shareOf (sendOf q)) (gath m ρ)
        else rowsPts t.1 (originOf q) fullShare (gath m ρ))
    split <;> infer_instance

section Tables
variable (c : Dev nD)

theorem duties_bar : (xchg (F := F) m ρ).duties (barCell c) 0 = Finset.univ.erase c := by
  dsimp only [xchg]; exact if_pos ⟨rfl, rfl⟩
theorem duties_send (k : Fin 3) : (xchg (F := F) m ρ).duties (sCell k c) 0 = {c} := by
  dsimp only [xchg]
  rw [if_pos ⟨rfl, rfl⟩, if_neg (by omega), if_pos (by omega)]
theorem duties_recv (o : Dev nD) : (xchg (F := F) m ρ).duties (rCell o c) 0 = ({o} : Finset (Dev nD)).erase c := by
  dsimp only [xchg]
  rw [if_pos ⟨rfl, rfl⟩, if_neg (by omega), if_neg (by omega)]
  show ({originOf (rS o)} : Finset (Dev nD)).erase c = _; rw [originOf_rS]
theorem duties_recv_px (k : Fin 3) : (xchg (F := F) m ρ).duties (rCell (px k c) c) 0 = {px k c} := by
  rw [duties_recv]; exact Finset.erase_eq_of_notMem (fun h => px_ne k c (Finset.mem_singleton.mp h).symm)
theorem duties_recv_self : (xchg (F := F) m ρ).duties (rCell c c) 0 = ∅ := by rw [duties_recv]; revert c; decide
theorem duties_later (g : GSem nD τ sig) : ∀ r, 1 ≤ r → (xchg (F := F) m ρ).duties g r = ∅ :=
  fun r hr => by dsimp only [xchg]; exact if_neg fun h => by omega
theorem duties_idle : ∀ r, 0 ≤ r → (xchg (F := F) m ρ).duties (rCell c c) r = ∅ := fun r _ => by
  rcases Nat.eq_zero_or_pos r with rfl | h
  · exact duties_recv_self m ρ c
  · exact duties_later m ρ _ r h

theorem amount_bar (d : Dev nD) : (xchg (F := F) m ρ).amount (barCell c) 0 d = 1 := rfl
theorem amount_send (k : Fin 3) (d : Dev nD) : (xchg (F := F) m ρ).amount (sCell k c) 0 d = N := rfl
theorem amount_recv (o d : Dev nD) : (xchg (F := F) m ρ).amount (rCell o c) 0 d = N := rfl

theorem expect_bar : (xchg (F := F) m ρ).expect (barCell c) 0 = 3 := by
  unfold Schedule.expect Schedule.amountOf
  rw [duties_bar, Finset.sum_congr rfl fun d _ => amount_bar m ρ c d, Finset.sum_const, smul_eq_mul, Nat.mul_one]
  revert c; decide
theorem expect_send (k : Fin 3) : (xchg (F := F) m ρ).expect (sCell k c) 0 = N := by
  unfold Schedule.expect Schedule.amountOf; rw [duties_send, Finset.sum_singleton, amount_send]
theorem expect_recv (k : Fin 3) : (xchg (F := F) m ρ).expect (rCell (px k c) c) 0 = N := by
  unfold Schedule.expect Schedule.amountOf; rw [duties_recv_px, Finset.sum_singleton, amount_recv]

theorem payload_bar (d : Dev nD) : (xchg (F := F) m ρ).payload (barCell c) 0 d = iprop(∃ f, rowsPts d c fullShare f) := rfl
theorem payload_send (k : Fin 3) (d : Dev nD) :
    (xchg (F := F) m ρ).payload (sCell k c) 0 d = rowsPts c c (shareOf k) (gath m ρ) := by
  dsimp only [xchg]
  rw [if_pos (by omega)]
  show rowsPts c c (shareOf (sendOf (sS k))) (gath m ρ) = _; rw [sendOf_sS]
theorem payload_recv (o d : Dev nD) : (xchg (F := F) m ρ).payload (rCell o c) 0 d = rowsPts c o fullShare (gath m ρ) := by
  dsimp only [xchg]
  rw [if_neg (by omega)]
  show rowsPts c (originOf (rS o)) fullShare (gath m ρ) = _; rw [originOf_rS]

/-- The whole round of a barrier cell: the three other devices' rows. -/
theorem rest_bar : bigSep ((xchg (F := F) m ρ).duties (barCell c) 0 \ ∅) (fun d => (xchg (F := F) m ρ).payload (barCell c) 0 d)
    = iprop((∃ f, rowsPts (px 0 c) c fullShare f) ∗ (∃ f, rowsPts (px 1 c) c fullShare f) ∗ (∃ f, rowsPts (px 2 c) c fullShare f)) := by
  rw [Finset.sdiff_empty, duties_bar, bigSep_eq_bigSepL_of_eq [px 0 c, px 1 c, px 2 c] (by revert c; decide) (by revert c; decide)]
  rfl
theorem rest_send (k : Fin 3) : bigSep ((xchg (F := F) m ρ).duties (sCell k c) 0 \ ∅) (fun d => (xchg (F := F) m ρ).payload (sCell k c) 0 d)
    = rowsPts c c (shareOf k) (gath m ρ) := by
  rw [Finset.sdiff_empty, duties_send, bigSep_singleton, payload_send]
theorem rest_recv (k : Fin 3) : bigSep ((xchg (F := F) m ρ).duties (rCell (px k c) c) 0 \ ∅) (fun d => (xchg (F := F) m ρ).payload (rCell (px k c) c) 0 d)
    = rowsPts c (px k c) fullShare (gath m ρ) := by
  rw [Finset.sdiff_empty, duties_recv_px, bigSep_singleton, payload_recv]
end Tables

/-! ## What a device owes at launch; the levels -/

/-- The credit device `c`'s transfer `k` puts on its destination's receive cell, and its unit to a barrier. -/
abbrev oweR (k : Fin 3) (c : Dev nD) : CellTallies nD τ sig Unit := tallyAt (rCell c (px k c)) () N
abbrev oweB (k : Fin 3) (c : Dev nD) : CellTallies nD τ sig Unit := tallyAt (barCell (nx k c)) () 1

/-- The three transfers' credits, then the three signals' units, in the order they are paid from the right. -/
def OR (c : Dev nD) : CellTallies nD τ sig Unit := oweR 2 c + oweR 1 c + oweR 0 c
def O₀ (c : Dev nD) : CellTallies nD τ sig Unit := OR c + oweB 2 c + oweB 1 c + oweB 0 c

def L (g : GSem nD τ sig) : Finset Unit := if g.1.2 = .tc then {()} else ∅
/-- Barrier cells at 1, receive cells at 2, staging and send cells at 0. -/
def lv (g : GSem nD τ sig) (_ : Unit) : ℕ := match g.2 with | .reg _ => 1 | .dma q => if q.val < 5 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (o c : Dev nD) (u : Unit) : lv (rCell o c) u = 2 := by dsimp only [lv]; exact if_neg (by omega)

theorem tallyAt_pos {g g' : GSem nD τ sig} {u u' : Unit} {n : ℕ} (h : 0 < (tallyAt g u n : CellTallies nD τ sig Unit) g' u') : g' = g := by
  rw [tallyAt_apply] at h
  by_contra hn
  rw [if_neg fun h' => hn h'.1] at h
  exact Nat.lt_irrefl 0 h

theorem add_pos {A B : CellTallies nD τ sig Unit} {g : GSem nD τ sig} {u : Unit} (h : 0 < (A + B) g u) : 0 < A g u ∨ 0 < B g u := by
  rw [Pi.add_apply, Finsupp.add_apply] at h; omega

theorem OR_pos {c : Dev nD} {g : GSem nD τ sig} {u : Unit} (h : 0 < OR c g u) : ∃ k : Fin 3, g = rCell c (px k c) := by
  rcases add_pos h with h | h
  · rcases add_pos h with h | h
    · exact ⟨2, tallyAt_pos h⟩
    · exact ⟨1, tallyAt_pos h⟩
  · exact ⟨0, tallyAt_pos h⟩

theorem O₀_pos {c : Dev nD} {g : GSem nD τ sig} {u : Unit} (h : 0 < O₀ c g u) :
    (∃ k : Fin 3, g = rCell c (px k c)) ∨ ∃ k : Fin 3, g = barCell (nx k c) := by
  rcases add_pos h with h | h
  · rcases add_pos h with h | h
    · rcases add_pos h with h | h
      · exact .inl (OR_pos h)
      · exact .inr ⟨2, tallyAt_pos h⟩
    · exact .inr ⟨1, tallyAt_pos h⟩
  · exact .inr ⟨0, tallyAt_pos h⟩

theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; exact (le_of_eq (if_pos hq)))
      (fun g u hg => by
        rcases O₀_pos hg with ⟨k, rfl⟩ | ⟨k, rfl⟩
        · rw [lv_recv]; decide
        · exact Nat.one_pos)
  · rw [MayWait_zero]; iintro -; iempintro

/-- At its barrier wait a device owes receive credit only, which stands above. -/
theorem mayWait_bar (c : Dev nD) : (levAts L lv : sProp 𝕄) ⊢ MayWait (c : Thread nD τ) (.reg barSem) () (OR c) :=
  MayOwe.of_cut (L := L) (lev := lv) 1 (fun p hp => by rw [Finset.mem_singleton.mp hp, L_tc]; exact Finset.mem_singleton_self _)
    (fun g u hg => by obtain ⟨k, rfl⟩ := OR_pos hg; exact Finset.mem_singleton_self _)
    (fun p hp => by rw [Finset.mem_singleton.mp hp]; exact le_refl 1)
    (fun g u hg => by obtain ⟨k, rfl⟩ := OR_pos hg; rw [lv_recv]; decide)

/-! ## The ghost state a device starts from -/

/-- Every cell's invariant, under the names the launch chose, and that every cell has reached round 0. -/
def records (K : Dev nD × Fin 8 → ℕ) : sProp 𝕄 :=
  iprop((bigSep Finset.univ fun ck : Dev nD × Fin 8 => cellInv ER (xchg m ρ) (K ck) (kcell ck))
    ∗ bigSep Finset.univ fun ck : Dev nD × Fin 8 => reached ER (kcell ck) 0)

instance records_persistent (K : Dev nD × Fin 8 → ℕ) : BI.Persistent (records m ρ K) := by unfold records; infer_instance

theorem inv_at (K : Dev nD × Fin 8 → ℕ) (ck : Dev nD × Fin 8) : records m ρ K ⊢ cellInv ER (xchg m ρ) (K ck) (kcell ck) := by
  unfold records
  exact (BI.sep_and.trans BI.and_elimL).trans (bigSep_elim (Finset.mem_univ ck))
theorem reached_at (K : Dev nD × Fin 8 → ℕ) (ck : Dev nD × Fin 8) : records m ρ K ⊢ reached ER (kcell ck) 0 := by
  unfold records
  exact (BI.sep_and.trans BI.and_elimR).trans (bigSep_elim (Finset.mem_univ ck))

/-- Its positions at the start of its eight cells. -/
def atAll (c : Dev nD) : sProp 𝕄 := bigSep Finset.univ fun k : Fin 8 => atPos ER (kcell (c, k)) 0 ∅ 0

/-- The tokens of the duties it pays: to the barrier cells, to its own send cells, to the receive cells of its chunk. -/
def payToks (c : Dev nD) : sProp 𝕄 :=
  iprop((bigSep Finset.univ fun d : Dev nD => dutyTok ER (barCell d) 0 c)
    ∗ (bigSep Finset.univ fun k : Fin 3 => dutyTok ER (sCell k c) 0 c)
    ∗ bigSep Finset.univ fun d : Dev nD => dutyTok ER (rCell c d) 0 c)

def ghost (K : Dev nD × Fin 8 → ℕ) (c : Dev nD) : sProp 𝕄 := iprop(records m ρ K ∗ atAll c ∗ payToks c)

/-- The credit a device waits with. -/
def credits (c : Dev nD) : sProp 𝕄 :=
  iprop(cred (tallyAt (barCell c) () 3) ∗ cred (tallyAt (rCell (px 0 c) c) () N) ∗ cred (tallyAt (rCell (px 1 c) c) () N)
    ∗ cred (tallyAt (rCell (px 2 c) c) () N))

def start (c : Dev nD) : sProp 𝕄 := iprop((∃ K, ghost m ρ K c) ∗ credits c ∗ levAts L lv)

/-- The two exchange buffers at some contents. -/
def scratch (c : Dev nD) : sProp 𝕄 :=
  iprop((∃ f, ((c : Thread nD τ).loc cc0_scratch0) ↦{fullShare} f) ∗ ∃ f, ((c : Thread nD τ).loc cc0_scratch1) ↦{fullShare} f)

def Φ₀ (c : Dev nD) : sProp 𝕄 := iprop(start m ρ c ∗ scratch c)
/-- Afterwards: the buffers, and every cell closed with its counter at zero. -/
def Φ₁ (c : Dev nD) : sProp 𝕄 := iprop(scratch c ∗ bigSep Finset.univ fun k : Fin 8 => semVal (kcell (c, k)) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

end Cert.SortProof
-- ==== Proof.Rules.lean ====
/-
# `Rules`: the body's operations as steps of the exchange

One lemma per kind of operation: a signal to another device's barrier, the wait on the own one, a transfer, a wait for a
chunk, a wait for a sent chunk, and loads and stores of whole rows of the two buffers.
-/
module

public import proofs.«01_k».proof.Proof.Protocol

@[expose] public section

noncomputable section

namespace Cert.SortProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What a device still owes, whatever it has waited on so far. -/
def owesSome (c : Dev nD) (O : CellTallies nD τ sig Unit) : sProp 𝕄 := iprop(∃ W, owes (c : Thread nD τ) O W)

section Steps
variable (K : Dev nD × Fin 8 → ℕ) (c : Dev nD)

theorem wp_signal_nx (k : Fin 3) (n : Dev nD) (hn : n = nx k c) (O : CellTallies nD τ sig Unit)
    {α : Type} {kt : PUnit → Prog (TpuEff nD τ sig (Elt F) Λ₀ .tc) α} {Q : α → sProp 𝕄} :
    iprop(records m ρ K ∗ owesSome c (O + oweB k c) ∗ dutyTok ER (barCell (nx k c)) 0 c ∗ (∃ f, rowsPts c (nx k c) fullShare f))
      ⊢ iprop((owesSome c O -∗ wp frame (wpE (defs₀ (F := F)) 𝒱₀ (c : Thread nD τ) none) Set.univ (kt ⟨⟩) Q)
          -∗ wp frame (wpE (defs₀ (F := F)) 𝒱₀ (c : Thread nD τ) none) Set.univ
              (.op (.semSignal (n : Thread nD τ) barSem (BitVec.toInt 1#32)) kt) Q) := by
  subst hn
  unfold owesSome
  iintro ⟨#HR, ⟨%W, HO⟩, Ht, Hp⟩ Hk
  iapply (Rounds.wp_signal 𝒱₀ ER (xchg m ρ) (c : Thread nD τ) none (dst := (nx k c : Thread nD τ)) (κ := K (nx k c, 0))
      (r := 0) (d := c) (k' := 1) (by rw [duties_bar]; exact Finset.mem_erase.mpr ⟨(nx_ne k c).symm, Finset.mem_univ _⟩)
      (amount_bar m ρ (nx k c) c) () O rfl) $$ [HO Ht Hp]
  · isplitr; · iapply (inv_at m ρ K (nx k c, 0)); iexact HR
    isplitl [HO]; · iexact HO
    isplitl [Ht]; · iexact Ht
    isplitl [Hp]; · rw [payload_bar]; iexact Hp
    iapply (reached_at m ρ K (nx k c, 0)); iexact HR
  iintro HO
  iapply Hk
  iexists W; iexact HO

theorem wp_wait_bar {α : Type} {kt : PUnit → Prog (TpuEff nD τ sig (Elt F) Λ₀ .tc) α} {Q : α → sProp 𝕄} :
    iprop(records m ρ K ∗ levAts L lv ∗ cred (tallyAt (barCell c) () 3) ∗ owesSome c (OR c) ∗ atPos ER (barCell c) 0 ∅ 0)
      ⊢ iprop(((owesSome c (OR c) ∗ atPos ER (barCell c) 1 ∅ 0
            ∗ (∃ f, rowsPts (px 0 c) c fullShare f) ∗ (∃ f, rowsPts (px 1 c) c fullShare f) ∗ (∃ f, rowsPts (px 2 c) c fullShare f))
          -∗ wp frame (wpE (defs₀ (F := F)) 𝒱₀ (c : Thread nD τ) none) Set.univ (kt ⟨⟩) Q)
          -∗ wp frame (wpE (defs₀ (F := F)) 𝒱₀ (c : Thread nD τ) none) Set.univ
              (.op (.semWait barSem (BitVec.toInt 3#32)) kt) Q) := by
  unfold owesSome
  iintro ⟨#HR, #Hlev, Hc, ⟨%W, HO⟩, Hat⟩ Hk
  iapply (Rounds.wp_wait_rest_token 𝒱₀ ER (xchg m ρ) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [Hc HO Hat]
  · isplitr; · iapply (inv_at m ρ K (c, 0)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-- The rows of chunk `c` as the transfers name them. -/
theorem ownRows_set : (ownRows gM c).view.set = rows c := g_set (k0_off3 c) (k0_off3_eq c) (k0_off3_inb c)

theorem landed (d : Dev nD) (fn : Buf (Elt F) ((d : Thread nD τ).loc cc0_scratch0)) :
    ((ownRows gM c).view.loc (d : Thread nD τ) ↦[(ownRows gM c).view.set]{fullShare}
        ((ownRows gM c).view.write (Elt F) fn ((ownRows gM c).view.read (Elt F) (gath m ρ)) Finset.univ) : sProp 𝕄)
      = rowsPts d c fullShare (gath m ρ) := by
  rw [View.write_read_eq_piecewise, View.setOn_univ]
  rw [pointsTo_congr (g := gath m ρ) fun i hi => Finset.piecewise_eq_of_mem _ _ _ hi, ownRows_set]
  rfl

theorem amount_own (q : DmaSem sig) : (ownRows gM c).view.amount (.dma q) = N := rfl

theorem wp_send_view (k : Fin 3) {hsc : (ownRows gM c).view.ref.isScScratch = false}
    {hsrc : (ownRows gM c).view.WordExact} {hdst : (ownRows gM c).view.WordExact}
    {hsem : DmaTarget.Typed .vmem (.dma (rS c)) (.remote (Dev.tc (px k c) : Thread nD τ) (ownRows gM c) (.dma (sS k)) hsc)}
    {α : Type} {kt : PUnit → Prog (TpuEff nD τ sig (Elt F) Λ₀ .tc) α} {Q : α → sProp 𝕄}
    (fn : Buf (Elt F) ((ownRows gM c).view.loc (px k c : Thread nD τ))) (O : CellTallies nD τ sig Unit) (W : Waits sig Unit) :
    iprop(cellInv ER (xchg m ρ) (K (c, sIx k)) (sCell k c) ∗ cellInv ER (xchg m ρ) (K (px k c, rIx c)) (rCell c (px k c))
        ∗ ((ownRows gM c).view.loc (c : Thread nD τ) ↦[(ownRows gM c).view.set]{shareOf k} gath m ρ)
        ∗ ((ownRows gM c).view.loc (px k c : Thread nD τ) ↦[(ownRows gM c).view.set]{fullShare} fn)
        ∗ owes (c : Thread nD τ) (O + oweR k c) W
        ∗ dutyTok ER (sCell k c) 0 c ∗ reached ER (sCell k c) 0
        ∗ dutyTok ER (rCell c (px k c)) 0 c ∗ reached ER (rCell c (px k c)) 0)
      ⊢ iprop(((cred (tallyAt (sCell k c) () N) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (ownRows gM c) (.remote (Dev.tc (px k c) : Thread nD τ) (ownRows gM c) (.dma (sS k)) hsc) (.dma (rS c)) hsrc hdst hsem) kt) Q) :=
  Rounds.wp_send_pointsTo 𝒱₀ ER (xchg m ρ) (c : Thread nD τ) none (κ₁ := K (c, sIx k)) (κ₂ := K (px k c, rIx c))
    (r₁ := 0) (r₂ := 0) (d₁ := c) (d₂ := c) (fd := fn)
    (by rw [duties_send]; exact Finset.mem_singleton_self _)
    (by rw [duties_recv]; exact Finset.mem_erase.mpr ⟨(px_ne k c).symm, Finset.mem_singleton_self _⟩)
    () () N (amount_own c (rS c)) (amount_send m ρ c k c) (amount_recv m ρ (px k c) c c) O rfl (W := W)
    (by rw [payload_send, ownRows_set]; exact BI.Entails.refl _)
    (by rw [payload_recv, landed])

theorem wp_send_px (k : Fin 3) (n : Dev nD) (hn : n = px k c) (ss rs : DmaSem sig) (hss : ss = sS k) (hrs : rs = rS c)
    (O : CellTallies nD τ sig Unit)
    {hsc : (ownRows gM c).view.ref.isScScratch = false}
    {hsrc : (ownRows gM c).view.WordExact} {hdst : (ownRows gM c).view.WordExact}
    {hsem : DmaTarget.Typed .vmem (.dma rs) (.remote (Dev.tc n : Thread nD τ) (ownRows gM c) (.dma ss) hsc)}
    {α : Type} {kt : PUnit → Prog (TpuEff nD τ sig (Elt F) Λ₀ .tc) α} {Q : α → sProp 𝕄} :
    iprop(records m ρ K ∗ rowsPts c c (shareOf k) (gath m ρ) ∗ (∃ f, rowsPts (px k c) c fullShare f)
        ∗ owesSome c (O + oweR k c) ∗ dutyTok ER (sCell k c) 0 c ∗ dutyTok ER (rCell c (px k c)) 0 c)
      ⊢ iprop(((cred (tallyAt (sCell k c) () N) ∗ owesSome c O)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (ownRows gM c) (.remote (Dev.tc n : Thread nD τ) (ownRows gM c) (.dma ss) hsc) (.dma rs) hsrc hdst hsem) kt) Q) := by
  subst hn hss hrs
  unfold owesSome
  iintro ⟨#HR, Hs, ⟨%fn, Hd⟩, ⟨%W, HO⟩, Hts, Htr⟩ Hk
  iapply (wp_send_view m ρ K c k fn O W) $$ [Hs Hd HO Hts Htr]
  · rw [ownRows_set]
    isplitr; · iapply (inv_at m ρ K (c, sIx k)); iexact HR
    isplitr; · iapply (inv_at m ρ K (px k c, rIx c)); iexact HR
    isplitl [Hs]; · unfold rowsPts; iexact Hs
    isplitl [Hd]; · unfold rowsPts; iexact Hd
    isplitl [HO]; · iexact HO
    isplitl [Hts]; · iexact Hts
    isplitr; · iapply (reached_at m ρ K (c, sIx k)); iexact HR
    isplitl [Htr]; · iexact Htr
    iapply (reached_at m ρ K (px k c, rIx c)); iexact HR
  iintro ⟨Hc, HO⟩
  iapply Hk
  isplitl [Hc]; · iexact Hc
  iexists W; iexact HO

/-- The wait for the chunk of the device `k + 1` apart. -/
theorem wp_wait_recv (k : Fin 3) (sm : DmaSem sig) (hs : sm = rS (px k c)) {v w : Memref sig .tc .vmem S256x128 .bf16}
    (hv : w.view.dmaCredit = N) {h₁ : v.view.WordExact} {h₂ : w.view.WordExact}
    {α : Type} {kt : PUnit → Prog (TpuEff nD τ sig (Elt F) Λ₀ .tc) α} {Q : α → sProp 𝕄} :
    iprop(records m ρ K ∗ cred (tallyAt (rCell (px k c) c) () N) ∗ owesSome c 0 ∗ atPos ER (rCell (px k c) c) 0 ∅ 0)
      ⊢ iprop(((owesSome c 0 ∗ atPos ER (rCell (px k c) c) 1 ∅ 0 ∗ rowsPts c (px k c) fullShare (gath m ρ))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm v w h₁ h₂) kt) Q) := by
  subst hs
  unfold owesSome
  iintro ⟨#HR, Hc, ⟨%W, HO⟩, Hat⟩ Hk
  iapply (Rounds.wp_wait_rest_token 𝒱₀ ER (xchg m ρ) (c : Thread nD τ) none (κ := K (c, rIx (px k c)))
      (wpE_waitDma2_eq 𝒱₀ (c : Thread nD τ) none Set.univ) (Set.mem_univ _) () (O := 0) (W := W) (R := 0) (m := 0) (T := ∅)
      (by rw [Nat.zero_add, expect_recv, hv])) $$ [Hc HO Hat]
  · isplitr; · iapply (inv_at m ρ K (c, rIx (px k c))); iexact HR
    isplitl [Hc]; · rw [hv]; iexact Hc
    isplitl [HO]; · iexact HO
    isplitr; · rw [MayWait_zero]; iempintro
    iexact Hat
  iintro ⟨HO, Hat, -, Hpay⟩
  ihave Hp := (Entails.of_eq (rest_recv m ρ c k)) $$ Hpay
  iapply Hk
  isplitl [HO]; · iexists _; iexact HO
  isplitl [Hat]; · iexact Hat
  iexact Hp

/-- The wait for transfer `k` to have left. -/
theorem wp_wait_sent (k : Fin 3) (sm : DmaSem sig) (hs : sm = sS k) {v w : Memref sig .tc .vmem S256x128 .bf16}
    (hv : w.view.dmaCredit = N) {h₁ : v.view.WordExact} {h₂ : w.view.WordExact}
    {α : Type} {kt : PUnit → Prog (TpuEff nD τ sig (Elt F) Λ₀ .tc) α} {Q : α → sProp 𝕄} :
    iprop(records m ρ K ∗ cred (tallyAt (sCell k c) () N) ∗ owesSome c 0 ∗ atPos ER (sCell k c) 0 ∅ 0)
      ⊢ iprop(((owesSome c 0 ∗ atPos ER (sCell k c) 1 ∅ 0 ∗ rowsPts c c (shareOf k) (gath m ρ))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm v w h₁ h₂) kt) Q) := by
  subst hs
  unfold owesSome
  iintro ⟨#HR, Hc, ⟨%W, HO⟩, Hat⟩ Hk
  iapply (Rounds.wp_wait_rest_token 𝒱₀ ER (xchg m ρ) (c : Thread nD τ) none (κ := K (c, sIx k))
      (wpE_waitDma2_eq 𝒱₀ (c : Thread nD τ) none Set.univ) (Set.mem_univ _) () (O := 0) (W := W) (R := 0) (m := 0) (T := ∅)
      (by rw [Nat.zero_add, expect_send, hv])) $$ [Hc HO Hat]
  · isplitr; · iapply (inv_at m ρ K (c, sIx k)); iexact HR
    isplitl [Hc]; · rw [hv]; iexact Hc
    isplitl [HO]; · iexact HO
    isplitr; · rw [MayWait_zero]; iempintro
    iexact Hat
  iintro ⟨HO, Hat, -, Hpay⟩
  ihave Hp := (Entails.of_eq (rest_send m ρ c k)) $$ Hpay
  iapply Hk
  isplitl [HO]; · iexists _; iexact HO
  isplitl [Hat]; · iexact Hat
  iexact Hp

/-! ## Loads and stores of whole rows -/

section Rows
variable {a n : ℕ} (off : Fin 2 → ℕ) (hoff : off = ![a, 0])
  (hinb : ∀ x, off x + (Mat n).size x ≤ S1024x128.size x) (h : a + n ≤ 1024)
include hoff h

theorem wp_load_g {S : Finset (Mat 1024).Idx} (hS : rowsAt a n ⊆ S) {q : PosShare TreeShare}
    (f : Buf (Elt F) ((c : Thread nD τ).loc cc0_scratch0))
    {hl : gM.view.LoadsAt (Rect.unit (s := S1024x128) off (Mat n).size hinb).toLoadRect}
    {α : Type} {kt : ((Mat n).Idx → Elt F .bf16) → Prog (TpuEff nD τ sig (Elt F) Λ₀ .tc) α} {Q : α → sProp 𝕄} :
    (((c : Thread nD τ).loc cc0_scratch0) ↦[S]{q} f)
      ⊢ iprop(((((c : Thread nD τ).loc cc0_scratch0) ↦[S]{q} f) -∗ wp frame (wpE (defs₀ (F := F)) 𝒱₀ (c : Thread nD τ) none) Set.univ (kt (rowsOf a n h f)) Q)
        -∗ wp frame (wpE (defs₀ (F := F)) 𝒱₀ (c : Thread nD τ) none) Set.univ
            (.op (.load gM (Rect.unit (s := S1024x128) off (Mat n).size hinb).toLoadRect hl) kt) Q) := by
  rw [← show gM.view.readAt (Elt F) (Rect.unit (s := S1024x128) off (Mat n).size hinb).toLoadRect f = rowsOf a n h f from
    g_read off hoff hinb h f]
  refine wp_load 𝒱₀ (c : Thread nD τ) none Set.univ (m := gM) (Finset.Subset.trans ?_ hS)
  intro i hi
  rw [← rect_set off hoff hinb]
  obtain ⟨j, hj, rfl⟩ := Finset.mem_map.mp hi
  exact hj

theorem wp_load_m {S : Finset (Mat 1024).Idx} (hS : rowsAt a n ⊆ S) {q : PosShare TreeShare}
    (f : Buf (Elt F) ((c : Thread nD τ).loc cc0_scratch1))
    {hl : mM.view.LoadsAt (Rect.unit (s := S1024x128) off (Mat n).size hinb).toLoadRect}
    {α : Type} {kt : ((Mat n).Idx → Elt F .bf16) → Prog (TpuEff nD τ sig (Elt F) Λ₀ .tc) α} {Q : α → sProp 𝕄} :
    (((c : Thread nD τ).loc cc0_scratch1) ↦[S]{q} f)
      ⊢ iprop(((((c : Thread nD τ).loc cc0_scratch1) ↦[S]{q} f) -∗ wp frame (wpE (defs₀ (F := F)) 𝒱₀ (c : Thread nD τ) none) Set.univ (kt (rowsOf a n h f)) Q)
        -∗ wp frame (wpE (defs₀ (F := F)) 𝒱₀ (c : Thread nD τ) none) Set.univ
            (.op (.load mM (Rect.unit (s := S1024x128) off (Mat n).size hinb).toLoadRect hl) kt) Q) := by
  rw [← show mM.view.readAt (Elt F) (Rect.unit (s := S1024x128) off (Mat n).size hinb).toLoadRect f = rowsOf a n h f from
    m_read off hoff hinb h f]
  refine wp_load 𝒱₀ (c : Thread nD τ) none Set.univ (m := mM) (Finset.Subset.trans ?_ hS)
  intro i hi
  rw [← rect_set off hoff hinb]
  obtain ⟨j, hj, rfl⟩ := Finset.mem_map.mp hi
  exact hj

theorem wp_store_g {S : Finset (Mat 1024).Idx} (hS : rowsAt a n ⊆ S) (f : Buf (Elt F) ((c : Thread nD τ).loc cc0_scratch0))
    (w : (Mat n).Idx → Elt F .bf16)
    {hx : (gM.access (Rect.unit (s := S1024x128) off (Mat n).size hinb)).Stores Finset.univ}
    {hm : (Finset.univ : Finset (Mat n).Idx) = Finset.univ ∨ ∀ x, (Rect.unit (s := S1024x128) off (Mat n).size hinb).stride x = 1}
    {α : Type} {kt : PUnit → Prog (TpuEff nD τ sig (Elt F) Λ₀ .tc) α} {Q : α → sProp 𝕄} :
    (((c : Thread nD τ).loc cc0_scratch0) ↦[S]{fullShare} f)
      ⊢ iprop(((((c : Thread nD τ).loc cc0_scratch0) ↦[S]{fullShare} (setRows a n f w : Buf (Elt F) ((c : Thread nD τ).loc cc0_scratch0)))
            -∗ wp frame (wpE (defs₀ (F := F)) 𝒱₀ (c : Thread nD τ) none) Set.univ (kt ⟨⟩) Q)
        -∗ wp frame (wpE (defs₀ (F := F)) 𝒱₀ (c : Thread nD τ) none) Set.univ
            (.op (.store gM (Rect.unit (s := S1024x128) off (Mat n).size hinb) w Finset.univ hx hm) kt) Q) := by
  rw [← g_write off hoff hinb h f w]
  refine wp_store 𝒱₀ (c : Thread nD τ) none Set.univ (m := gM) (r := Rect.unit (s := S1024x128) off (Mat n).size hinb) (w := w) (Mk := Finset.univ) (hx := hx) (hm := hm) (k := kt) (S := S) (f := f) ?_
  rw [View.setOn_univ, g_set off hoff hinb]
  exact hS

theorem wp_store_m {S : Finset (Mat 1024).Idx} (hS : rowsAt a n ⊆ S) (f : Buf (Elt F) ((c : Thread nD τ).loc cc0_scratch1))
    (w : (Mat n).Idx → Elt F .bf16)
    {hx : (mM.access (Rect.unit (s := S1024x128) off (Mat n).size hinb)).Stores Finset.univ}
    {hm : (Finset.univ : Finset (Mat n).Idx) = Finset.univ ∨ ∀ x, (Rect.unit (s := S1024x128) off (Mat n).size hinb).stride x = 1}
    {α : Type} {kt : PUnit → Prog (TpuEff nD τ sig (Elt F) Λ₀ .tc) α} {Q : α → sProp 𝕄} :
    (((c : Thread nD τ).loc cc0_scratch1) ↦[S]{fullShare} f)
      ⊢ iprop(((((c : Thread nD τ).loc cc0_scratch1) ↦[S]{fullShare} (setRows a n f w : Buf (Elt F) ((c : Thread nD τ).loc cc0_scratch1)))
            -∗ wp frame (wpE (defs₀ (F := F)) 𝒱₀ (c : Thread nD τ) none) Set.univ (kt ⟨⟩) Q)
        -∗ wp frame (wpE (defs₀ (F := F)) 𝒱₀ (c : Thread nD τ) none) Set.univ
            (.op (.store mM (Rect.unit (s := S1024x128) off (Mat n).size hinb) w Finset.univ hx hm) kt) Q) := by
  rw [← m_write off hoff hinb h f w]
  refine wp_store 𝒱₀ (c : Thread nD τ) none Set.univ (m := mM) (r := Rect.unit (s := S1024x128) off (Mat n).size hinb) (w := w) (Mk := Finset.univ) (hx := hx) (hm := hm) (k := kt) (S := S) (f := f) ?_
  rw [View.setOn_univ, m_set off hoff hinb]
  exact hS
end Rows

end Steps

theorem rowsOf_all {α : Type} (h : 0 + 1024 ≤ 1024) (f : (Mat 1024).Idx → α) : rowsOf 0 1024 h f = f := by
  funext j; exact congrArg f (at2_ext (Nat.zero_add _) rfl)
theorem setRows_all {α : Type} (f w : (Mat 1024).Idx → α) : setRows 0 1024 f w = w := by
  funext i
  unfold setRows
  have := (rowOf i).isLt
  rw [dif_pos ⟨Nat.zero_le _, by omega⟩]
  exact congrArg w (at2_ext (Nat.sub_zero _) rfl)

end Cert.SortProof
-- ==== Proof.Body.lean ====
/-
# `Body`: the run of one device's body

From its buffers, its credit and its tokens to the returned chunk, one step per operation in program order.
-/
module

public import proofs.«01_k».proof.Proof.Rules

@[expose] public section

noncomputable section

namespace Cert.SortProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Cutting the gather buffer into chunks and pairs -/

section Rows
variable (c : Dev nD) (q : PosShare TreeShare) (f : Buf (Elt F) ((c : Thread nD τ).loc cc0_scratch0))

theorem rows_univ : (Finset.univ : Finset (Dev nD)).biUnion rows = Finset.univ := by
  ext i
  rw [Finset.mem_biUnion]
  obtain ⟨o, ho⟩ := rows_cover i
  exact ⟨fun _ => Finset.mem_univ _, fun _ => ⟨o, Finset.mem_univ _, ho⟩⟩

theorem nx_all : (Finset.univ : Finset (Dev nD)) = [c, nx 0 c, nx 1 c, nx 2 c].toFinset := by revert c; decide
theorem nx_nodup : [c, nx 0 c, nx 1 c, nx 2 c].Nodup := by revert c; decide

theorem gather_split : (((c : Thread nD τ).loc cc0_scratch0) ↦{fullShare} f : sProp 𝕄)
    = iprop(rowsPts c c fullShare f ∗ rowsPts c (nx 0 c) fullShare f ∗ rowsPts c (nx 1 c) fullShare f ∗ rowsPts c (nx 2 c) fullShare f) := by
  show (((c : Thread nD τ).loc cc0_scratch0) ↦[Finset.univ]{fullShare} f : sProp 𝕄) = _
  have h := pointsTo_biUnion (nD := nD) (τ := τ) (sig := sig) (Ix := Unit) (Val := Elt F) (Name := ℕ) (U := UU) (Lvl := ℕ) (ℓ := (c : Thread nD τ).loc cc0_scratch0) (q := fullShare) (f := f) Finset.univ rows
    (fun t _ t' _ hne => rows_disjoint hne)
  rw [rows_univ] at h
  rw [h, bigSep_univ_eq_bigSepL [c, nx 0 c, nx 1 c, nx 2 c] (nx_all c) (nx_nodup c)]
  rfl

theorem pair_vals : (c.val = 2 * (pr c).val ∧ (px 0 c).val = 2 * (pr c).val + 1) ∨ (c.val = 2 * (pr c).val + 1 ∧ (px 0 c).val = 2 * (pr c).val) := by
  revert c; decide
theorem pair_vals' : ((px 1 c).val = 2 * (pr' c).val ∧ (px 2 c).val = 2 * (pr' c).val + 1)
    ∨ ((px 1 c).val = 2 * (pr' c).val + 1 ∧ (px 2 c).val = 2 * (pr' c).val) := by
  revert c; decide
theorem pr_vals : (pr c).val + (pr' c).val = 1 := by revert c; decide

theorem px1_ne_px2 : px 1 c ≠ px 2 c := by revert c; decide

theorem pair_own : rows c ∪ rows (px 0 c) = rowsAt (512 * (pr c).val) 512 := by
  ext i; rw [Finset.mem_union, mem_rowsAt, mem_rowsAt, mem_rowsAt]; have := pair_vals c; omega
theorem pair_other : rows (px 1 c) ∪ rows (px 2 c) = rowsAt (512 * (pr' c).val) 512 := by
  ext i; rw [Finset.mem_union, mem_rowsAt, mem_rowsAt, mem_rowsAt]; have := pair_vals' c; omega
theorem pair_both : rowsAt (512 * (pr c).val) 512 ∪ rowsAt (512 * (pr' c).val) 512 = Finset.univ := by
  ext i; rw [Finset.mem_union, mem_rowsAt, mem_rowsAt]; have := pr_vals c; have := (rowOf i).isLt
  exact ⟨fun _ => Finset.mem_univ _, fun _ => by omega⟩
theorem pair_disjoint : Disjoint (rowsAt (512 * (pr c).val) 512) (rowsAt (512 * (pr' c).val) 512) := by
  rw [Finset.disjoint_left]; intro i hi hi'; rw [mem_rowsAt] at hi hi'; have := pr_vals c; omega

/-- The rows of a pair of chunks. -/
def halfPts (d : Dev nD) (p : Fin 2) (q : PosShare TreeShare) (f : Buf (Elt F) ((d : Thread nD τ).loc cc0_scratch0)) : sProp 𝕄 :=
  ((d : Thread nD τ).loc cc0_scratch0) ↦[rowsAt (512 * p.val) 512]{q} f

theorem own_join : iprop(rowsPts c c q f ∗ rowsPts c (px 0 c) q f) ⊣⊢ halfPts c (pr c) q f := by
  unfold halfPts; rw [← pair_own]
  exact ⟨(pointsTo_union (rows_disjoint (px_ne 0 c).symm)).2, (pointsTo_union (rows_disjoint (px_ne 0 c).symm)).1⟩
theorem other_join : iprop(rowsPts c (px 1 c) q f ∗ rowsPts c (px 2 c) q f) ⊢ halfPts c (pr' c) q f := by
  unfold halfPts; rw [← pair_other]
  exact (pointsTo_union (rows_disjoint (px1_ne_px2 c))).2
theorem whole_join : iprop(halfPts c (pr c) fullShare f ∗ halfPts c (pr' c) fullShare f) ⊢ (((c : Thread nD τ).loc cc0_scratch0) ↦{fullShare} f : sProp 𝕄) := by
  show _ ⊢ (((c : Thread nD τ).loc cc0_scratch0) ↦[Finset.univ]{fullShare} f : sProp 𝕄)
  unfold halfPts; rw [← pair_both c]
  exact (pointsTo_union (pair_disjoint c)).2

theorem rows_halve (o : Dev nD) : rowsPts c o q f ⊣⊢ iprop(rowsPts c o q.left f ∗ rowsPts c o q.right f) :=
  pointsTo_share (PosShare.mem_left_op_right q)
theorem half_halve (p : Fin 2) : halfPts c p q f ⊣⊢ iprop(halfPts c p q.left f ∗ halfPts c p q.right f) :=
  pointsTo_share (PosShare.mem_left_op_right q)
end Rows

theorem setRows_rows (c : Dev nD) (f : Buf (Elt F) ((c : Thread nD τ).loc cc0_scratch0)) :
    (((c : Thread nD τ).loc cc0_scratch0) ↦[rowsAt (256 * c.val) 256]{fullShare}
        (setRows (256 * c.val) 256 f (localSort (flipWord c) (xstg m ρ c)) : Buf (Elt F) ((c : Thread nD τ).loc cc0_scratch0)) : sProp 𝕄)
      = rowsPts c c fullShare (gath m ρ) := pointsTo_congr (setRows_gath m ρ c f)

/-! ## The body -/

section Body
variable (K : Dev nD × Fin 8 → ℕ) (c : Dev nD)

theorem hz : (![0, 0] : Fin 2 → Nat) = fun _ => 0 := funext fun a => by fin_cases a <;> rfl
theorem read_x (f : (cc0_stg0_0 : Ref sig .tc).ty.Contents (Elt F)) :
    (Memref.whole cc0_stg0_0 : Memref sig .tc .vmem S256x128 .bf16).view.readAt (Elt F) (Rect.unit (s := S256x128) ![0, 0] S256x128.size inb_S256x128_S256x128_0_0).toLoadRect f = f :=
  Memref.readAt_unit_zero (Elt F) cc0_stg0_0 hz _ f
theorem write_out (f w : (cc0_stg1_0 : Ref sig .tc).ty.Contents (Elt F)) :
    ((Memref.whole cc0_stg1_0 : Memref sig .tc .vmem S256x128 .f32).access (Rect.unit (s := S256x128) ![0, 0] S256x128.size inb_S256x128_S256x128_0_0) : View sig .tc _ _ _).write (Elt F) f w Finset.univ = w :=
  Memref.write_access_unit_zero_univ (Elt F) cc0_stg1_0 hz _ f w

/-- A transfer's rows are whole words. -/
theorem own_exact : (ownRows gM c).view.WordExact :=
  (Memref.isWhole_whole cc0_scratch0).wordExact_slice rfl _ (k0_off3_wordsbf16 c)

/-- The eight positions one by one, and the eight counters. -/
theorem cells_eq (Φ : GSem nD τ sig → sProp 𝕄) : (bigSep Finset.univ fun k : Fin 8 => Φ (kcell (c, k)))
    = iprop(Φ (barCell c) ∗ Φ (sCell 0 c) ∗ Φ (sCell 1 c) ∗ Φ (sCell 2 c)
        ∗ Φ (rCell (px 0 c) c) ∗ Φ (rCell (px 1 c) c) ∗ Φ (rCell (px 2 c) c) ∗ Φ (rCell c c)) := by
  rw [bigSep_univ_eq_bigSepL [0, sIx 0, sIx 1, sIx 2, rIx (px 0 c), rIx (px 1 c), rIx (px 2 c), rIx c] (by revert c; decide) (by revert c; decide)]
  rfl

theorem toks_bar : (bigSep Finset.univ fun d : Dev nD => (dutyTok ER (barCell d) 0 c : sProp 𝕄))
    = iprop(dutyTok ER (barCell (nx 0 c)) 0 c ∗ dutyTok ER (barCell (nx 1 c)) 0 c ∗ dutyTok ER (barCell (nx 2 c)) 0 c ∗ dutyTok ER (barCell c) 0 c) := by
  rw [bigSep_univ_eq_bigSepL [nx 0 c, nx 1 c, nx 2 c, c] (by revert c; decide) (by revert c; decide)]; rfl
theorem toks_send : (bigSep Finset.univ fun k : Fin 3 => (dutyTok ER (sCell k c) 0 c : sProp 𝕄))
    = iprop(dutyTok ER (sCell 0 c) 0 c ∗ dutyTok ER (sCell 1 c) 0 c ∗ dutyTok ER (sCell 2 c) 0 c) := by
  rw [bigSep_univ_eq_bigSepL [0, 1, 2] (by decide) (by decide)]; rfl
theorem toks_recv : (bigSep Finset.univ fun d : Dev nD => (dutyTok ER (rCell c d) 0 c : sProp 𝕄))
    = iprop(dutyTok ER (rCell c (px 0 c)) 0 c ∗ dutyTok ER (rCell c (px 1 c)) 0 c ∗ dutyTok ER (rCell c (px 2 c)) 0 c ∗ dutyTok ER (rCell c c) 0 c) := by
  rw [bigSep_univ_eq_bigSepL [px 0 c, px 1 c, px 2 c, c] (by revert c; decide) (by revert c; decide)]; rfl

theorem close_cell (ck : Fin 8) (R : ℕ) (hR : ∀ r, R ≤ r → (xchg (F := F) m ρ).duties (kcell (c, ck)) r = ∅) :
    iprop(records m ρ K ∗ atPos ER (kcell (c, ck)) R ∅ 0) ⊢ (|={Set.univ}=> semVal (kcell (c, ck)) 0 : sProp 𝕄) := by
  iintro ⟨#HR, Hat⟩
  iapply (Rounds.cell_close ER (xchg m ρ) (Set.mem_univ (K (c, ck))) (fun h => h) hR)
  isplitr; · iapply (inv_at m ρ K (c, ck)); iexact HR
  iexact Hat

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop((ghost m ρ K c ∗ credits c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost : sProp 𝕄 :=
  iprop(Φ₁ c ∗ (dats m ρ 0 c).owesAt () t₀.succ ∗ stg c cc0_stg0_0 (xstg m ρ c) ∗ stg c cc0_stg1_0 (outAt m ρ c))

theorem fetch_0 (t : Fin cfg0.N) : (cfg0.win (0 : Fin 2)).fetch t = true := by rw [fin_N t]; rfl

theorem start_owes : (dats m ρ 0 c).owesAt () t₀.castSucc ⊢ owesSome (F := F) c (O₀ c) := by
  unfold Dat.owesAt Pipeline.owesWithin owesSome
  rw [show (dats m ρ 0 c).owed t₀.castSucc = O₀ c from rfl]
  iintro ⟨%W, %hW, HO⟩
  iexists W; iexact HO
theorem end_owes : owesSome (F := F) c 0 ⊢ (dats m ρ 0 c).owesAt () t₀.succ := by
  unfold Dat.owesAt Pipeline.owesWithin owesSome
  rw [show (dats m ρ 0 c).owed t₀.succ = 0 from rfl]
  iintro ⟨%W, HO⟩
  iexists W
  isplitr; · ipureintro; exact fun _ _ => Or.inl trivial
  iexact HO

set_option maxHeartbeats 4000000 in
set_option maxRecDepth 4000 in
theorem sound_body (Kt : PUnit → sProp 𝕄) :
    iprop(bodyPre m ρ K c ∗ (bodyPost m ρ c -∗ Kt ⟨⟩))
      ⊢ wp frame (wpE (defs₀ (F := F)) 𝒱₀ c none) Set.univ
          (bodyFlat (Memref.whole cc0_stg0_0) (Memref.whole cc0_stg1_0) gM (Memref.isWhole_whole _)
            mM (Memref.isWhole_whole _) cc0_scratch2 cc0_scratch3) Kt := by
  unfold bodyFlat
  simp only [semSignalWord, semWaitWord, Prog.lift, Prog.bind_op, Prog.bind_ret, Prog.pure_eq_ret, wp_deviceId]
  unfold bodyPre ghost credits scratch payToks atAll
  rw [cells_eq c fun g => atPos ER g 0 ∅ 0, toks_bar, toks_send, toks_recv]
  iintro ⟨⟨⟨⟨#HR, ⟨HaB, HaS0, HaS1, HaS2, HaR0, HaR1, HaR2, HaC⟩, ⟨HtB0, HtB1, HtB2, -⟩, ⟨HtS0, HtS1, HtS2⟩, HtR0, HtR1, HtR2, -⟩,
      ⟨HcB, HcR0, HcR1, HcR2⟩, #Hlev, ⟨⟨%g0, Hg⟩, ⟨%m0, Hm⟩⟩⟩,
    Ho, ⟨%d0, %x0, %hx0, Hx⟩, ⟨%d1, %y0, %hy0, Hout⟩⟩, Hk⟩
  have hx : x0 = xstg m ρ c := by rw [hx0]; unfold Dat.before; rw [if_pos (fetch_0 t₀)]; rfl
  subst hx
  ihave HO := (start_owes m ρ c) $$ Ho
  unfold O₀
  -- the three signals hand out the rows the others will write
  ihave Hg := (Entails.of_eq (gather_split c g0)) $$ Hg
  icases Hg with ⟨Hown, Hn0, Hn1, Hn2⟩
  iapply (wp_signal_nx m ρ K c 0 _ (dev1_eq c) (OR c + oweB 2 c + oweB 1 c)) $$ [HO HtB0 Hn0]
  · isplitr; · iexact HR
    isplitl [HO]; · iexact HO
    isplitl [HtB0]; · iexact HtB0
    iexists g0; iexact Hn0
  iintro HO
  iapply (wp_signal_nx m ρ K c 1 _ (dev2_eq c) (OR c + oweB 2 c)) $$ [HO HtB1 Hn1]
  · isplitr; · iexact HR
    isplitl [HO]; · iexact HO
    isplitl [HtB1]; · iexact HtB1
    iexists g0; iexact Hn1
  iintro HO
  iapply (wp_signal_nx m ρ K c 2 _ (dev3_eq c) (OR c)) $$ [HO HtB2 Hn2]
  · isplitr; · iexact HR
    isplitl [HO]; · iexact HO
    isplitl [HtB2]; · iexact HtB2
    iexists g0; iexact Hn2
  iintro HO
  -- the own chunk, sorted, into its rows
  iapply (wp_load 𝒱₀ (c : Thread nD τ) none Set.univ (m := Memref.whole cc0_stg0_0) (Finset.subset_univ _)) $$ Hx; iintro Hx
  rw [read_x, pay2_eq, pay2_eq]
  unfold rowsPts
  iapply (wp_load_g c (a := 256 * c.val) (n := 256) (k0_off1 c) (k0_off1_eq c) (k0_off1_inb c) (by have : c.val < 4 := c.isLt; omega)
    (Finset.Subset.refl _) g0) $$ Hown; iintro Hown
  iapply (wp_store_g c (a := 256 * c.val) (n := 256) (k0_off1 c) (k0_off1_eq c) (k0_off1_inb c) (by have : c.val < 4 := c.isLt; omega)
    (Finset.Subset.refl _) g0 _) $$ Hown; iintro Hown
  ihave Hown := (Entails.of_eq (setRows_rows m ρ c g0)) $$ Hown
  -- the barrier
  iapply (wp_wait_bar m ρ K c) $$ [HcB HO HaB]
  · isplitr; · iexact HR
    isplitr; · iexact Hlev
    isplitl [HcB]; · iexact HcB
    isplitl [HO]; · iexact HO
    iexact HaB
  iintro ⟨HO, HaB, Hd0, Hd1, Hd2⟩
  unfold OR
  -- the three transfers, each lent a share of the own rows
  ihave Hown := (rows_halve c fullShare (gath m ρ) c).1 $$ Hown
  icases Hown with ⟨HownL, Hown⟩
  ihave Hown := (rows_halve c fullShare.right (gath m ρ) c).1 $$ Hown
  icases Hown with ⟨Hs0, Hown⟩
  ihave Hown := (rows_halve c fullShare.right.right (gath m ρ) c).1 $$ Hown
  icases Hown with ⟨Hs1, Hs2⟩
  iapply (wp_send_px m ρ K c 0 _ (dev4_eq c) _ _ sendSem0_eq (ownRecv_eq c) (oweR 2 c + oweR 1 c)) $$ [Hs0 Hd0 HO HtS0 HtR0]
  · isplitr; · iexact HR
    isplitl [Hs0]; · iexact Hs0
    isplitl [Hd0]; · iexact Hd0
    isplitl [HO]; · iexact HO
    isplitl [HtS0]; · iexact HtS0
    iexact HtR0
  iintro ⟨HcS0, HO⟩
  iapply (wp_send_px m ρ K c 1 _ (dev5_eq c) _ _ sendSem1_eq (ownRecv_eq c) (oweR 2 c)) $$ [Hs1 Hd1 HO HtS1 HtR1]
  · isplitr; · iexact HR
    isplitl [Hs1]; · iexact Hs1
    isplitl [Hd1]; · iexact Hd1
    isplitl [HO]; · iexact HO
    isplitl [HtS1]; · iexact HtS1
    iexact HtR1
  iintro ⟨HcS1, HO⟩
  iapply (wp_send_px m ρ K c 2 _ (dev6_eq c) _ _ sendSem2_eq (ownRecv_eq c) 0) $$ [Hs2 Hd2 HO HtS2 HtR2]
  · isplitr; · iexact HR
    isplitl [Hs2]; · iexact Hs2
    isplitl [Hd2]; · iexact Hd2
    isplitl [HO]; · rw [zero_add]; iexact HO
    isplitl [HtS2]; · iexact HtS2
    iexact HtR2
  iintro ⟨HcS2, HO⟩
  -- the neighbour's chunk, and the merge of the own pair
  iapply (wp_wait_recv m ρ K c 0 _ (recvSem1_eq c) (v := (gM.slice (Rect.unit (s := S1024x128) (k0_off5 c 1#32) S256x128.size (k0_off5_inb c 0)) (fun _ => rfl))) (w := (gM.slice (Rect.unit (s := S1024x128) (k0_off5 c 1#32) S256x128.size (k0_off5_inb c 0)) (fun _ => rfl))) rfl (h₁ := ((Memref.isWhole_whole cc0_scratch0).wordExact_slice rfl _ (k0_off5_wordsbf16 c 0))) (h₂ := ((Memref.isWhole_whole cc0_scratch0).wordExact_slice rfl _ (k0_off5_wordsbf16 c 0)))) $$ [HcR0 HO HaR0]
  · isplitr; · iexact HR
    isplitl [HcR0]; · iexact HcR0
    isplitl [HO]; · iexact HO
    iexact HaR0
  iintro ⟨HO, HaR0, Hv0⟩
  ihave Hv0 := (rows_halve c fullShare (gath m ρ) (px 0 c)).1 $$ Hv0
  icases Hv0 with ⟨Hv0L, Hv0R⟩
  ihave Hp := (own_join c fullShare.left (gath m ρ)).1 $$ [HownL Hv0L]
  · isplitl [HownL] <;> iassumption
  unfold halfPts
  iapply (wp_load_g c (a := 512 * (pr c).val) (n := 512) (k0_off6 c) (off6_eq c) (k0_off6_inb c) (by omega)
    (Finset.Subset.refl _) (gath m ρ)) $$ Hp; iintro Hp
  iapply (wp_load_m c (a := 512 * (pr c).val) (n := 512) (k0_off6 c) (off6_eq c) (k0_off6_inb c) (by omega)
    (Finset.subset_univ _) m0) $$ Hm; iintro Hm
  iapply (wp_store_m c (a := 512 * (pr c).val) (n := 512) (k0_off6 c) (off6_eq c) (k0_off6_inb c) (by omega)
    (Finset.subset_univ _) m0 _) $$ Hm; iintro Hm
  -- the other pair's chunks, and their merge
  iapply (wp_wait_recv m ρ K c 1 _ (recvSem2_eq c) (v := (gM.slice (Rect.unit (s := S1024x128) (k0_off5 c 2#32) S256x128.size (k0_off5_inb c 1)) (fun _ => rfl))) (w := (gM.slice (Rect.unit (s := S1024x128) (k0_off5 c 2#32) S256x128.size (k0_off5_inb c 1)) (fun _ => rfl))) rfl (h₁ := ((Memref.isWhole_whole cc0_scratch0).wordExact_slice rfl _ (k0_off5_wordsbf16 c 1))) (h₂ := ((Memref.isWhole_whole cc0_scratch0).wordExact_slice rfl _ (k0_off5_wordsbf16 c 1)))) $$ [HcR1 HO HaR1]
  · isplitr; · iexact HR
    isplitl [HcR1]; · iexact HcR1
    isplitl [HO]; · iexact HO
    iexact HaR1
  iintro ⟨HO, HaR1, Hv1⟩
  iapply (wp_wait_recv m ρ K c 2 _ (recvSem3_eq c) (v := (gM.slice (Rect.unit (s := S1024x128) (k0_off5 c 3#32) S256x128.size (k0_off5_inb c 2)) (fun _ => rfl))) (w := (gM.slice (Rect.unit (s := S1024x128) (k0_off5 c 3#32) S256x128.size (k0_off5_inb c 2)) (fun _ => rfl))) rfl (h₁ := ((Memref.isWhole_whole cc0_scratch0).wordExact_slice rfl _ (k0_off5_wordsbf16 c 2))) (h₂ := ((Memref.isWhole_whole cc0_scratch0).wordExact_slice rfl _ (k0_off5_wordsbf16 c 2)))) $$ [HcR2 HO HaR2]
  · isplitr; · iexact HR
    isplitl [HcR2]; · iexact HcR2
    isplitl [HO]; · iexact HO
    iexact HaR2
  iintro ⟨HO, HaR2, Hv2⟩
  ihave Hp' := (other_join c fullShare (gath m ρ)) $$ [Hv1 Hv2]
  · isplitl [Hv1] <;> iassumption
  unfold halfPts
  iapply (wp_load_g c (a := 512 * (pr' c).val) (n := 512) (k0_off7 c) (off7_eq c) (k0_off7_inb c) (by omega)
    (Finset.Subset.refl _) (gath m ρ)) $$ Hp'; iintro Hp'
  iapply (wp_load_m c (a := 512 * (pr' c).val) (n := 512) (k0_off7 c) (off7_eq c) (k0_off7_inb c) (by omega)
    (Finset.subset_univ _) _) $$ Hm; iintro Hm
  iapply (wp_store_m c (a := 512 * (pr' c).val) (n := 512) (k0_off7 c) (off7_eq c) (k0_off7_inb c) (by omega)
    (Finset.subset_univ _) _ _) $$ Hm; iintro Hm
  rw [pay104_eq, pay104_eq, flag_own, flag_other]
  ihave Hm := (Entails.of_eq (show (((c : Thread nD τ).loc cc0_scratch1) ↦{fullShare}
      (setRows (512 * (pr' c).val) 512 (setRows (512 * (pr c).val) 512 m0 (pairMerge (BitVec.ofNat 1 (pr c).val) (rowsOf (512 * (pr c).val) 512 _ (gath m ρ))))
        (pairMerge (BitVec.ofNat 1 (pr' c).val) (rowsOf (512 * (pr' c).val) 512 _ (gath m ρ))) : Buf (Elt F) ((c : Thread nD τ).loc cc0_scratch1)) : sProp 𝕄)
      = (((c : Thread nD τ).loc cc0_scratch1) ↦{fullShare} (merged m ρ : Buf (Elt F) ((c : Thread nD τ).loc cc0_scratch1))) from
        congrArg (fun f : Buf (Elt F) ((c : Thread nD τ).loc cc0_scratch1) => (((c : Thread nD τ).loc cc0_scratch1) ↦{fullShare} f : sProp 𝕄)) (setRows_merged m ρ c m0))) $$ Hm
  -- the last merge
  iapply (wp_load_m c (a := 0) (n := 1024) ![0, 0] rfl inb_S1024x128_S1024x128_0_0 (by omega)
    (Finset.subset_univ _) (merged m ρ)) $$ Hm; iintro Hm
  iapply (wp_load_m c (a := 0) (n := 1024) ![0, 0] rfl inb_S1024x128_S1024x128_0_0 (by omega)
    (Finset.subset_univ _) (merged m ρ)) $$ Hm; iintro Hm
  iapply (wp_store_m c (a := 0) (n := 1024) ![0, 0] rfl inb_S1024x128_S1024x128_0_0 (by omega)
    (Finset.subset_univ _) (merged m ρ) _) $$ Hm; iintro Hm
  rw [rowsOf_all, setRows_all, pay105_eq]
  iapply (wp_load_m c (a := 512 * (pr c).val) (n := 512) (k0_off6 c) (off6_eq c) (k0_off6_inb c) (by omega)
    (Finset.subset_univ _) _) $$ Hm; iintro Hm
  iapply (wp_load_m c (a := 512 * (pr c).val) (n := 512) (k0_off6 c) (off6_eq c) (k0_off6_inb c) (by omega)
    (Finset.subset_univ _) _) $$ Hm; iintro Hm
  iapply (wp_store_m c (a := 512 * (pr c).val) (n := 512) (k0_off6 c) (off6_eq c) (k0_off6_inb c) (by omega)
    (Finset.subset_univ _) _ _) $$ Hm; iintro Hm
  rw [pay106_eq]
  iapply (wp_load_m c (a := 256 * c.val) (n := 256) (k0_off1 c) (k0_off1_eq c) (k0_off1_inb c) (by have : c.val < 4 := c.isLt; omega)
    (Finset.subset_univ _) _) $$ Hm; iintro Hm
  -- the transfers have left: the lent shares are back
  iapply (wp_wait_sent m ρ K c 0 _ sendSem0_eq (v := ownRows gM c) (w := ownRows gM c) rfl (h₁ := own_exact c) (h₂ := own_exact c)) $$ [HcS0 HO HaS0]
  · isplitr; · iexact HR
    isplitl [HcS0]; · iexact HcS0
    isplitl [HO]; · iexact HO
    iexact HaS0
  iintro ⟨HO, HaS0, Hs0⟩
  iapply (wp_wait_sent m ρ K c 1 _ sendSem1_eq (v := ownRows gM c) (w := ownRows gM c) rfl (h₁ := own_exact c) (h₂ := own_exact c)) $$ [HcS1 HO HaS1]
  · isplitr; · iexact HR
    isplitl [HcS1]; · iexact HcS1
    isplitl [HO]; · iexact HO
    iexact HaS1
  iintro ⟨HO, HaS1, Hs1⟩
  iapply (wp_wait_sent m ρ K c 2 _ sendSem2_eq (v := ownRows gM c) (w := ownRows gM c) rfl (h₁ := own_exact c) (h₂ := own_exact c)) $$ [HcS2 HO HaS2]
  · isplitr; · iexact HR
    isplitl [HcS2]; · iexact HcS2
    isplitl [HO]; · iexact HO
    iexact HaS2
  iintro ⟨HO, HaS2, Hs2⟩
  -- the result
  iapply (wp_load 𝒱₀ (c : Thread nD τ) none Set.univ (m := Memref.whole cc0_stg1_0) (Finset.subset_univ _)) $$ Hout; iintro Hout
  iapply (wp_store 𝒱₀ (c : Thread nD τ) none Set.univ (m := Memref.whole cc0_stg1_0)
    (r := Rect.unit (s := S256x128) ![0, 0] S256x128.size inb_S256x128_S256x128_0_0) (Mk := Finset.univ) (Finset.subset_univ _)) $$ Hout; iintro Hout
  rw [write_out, wp_ret]
  -- every cell closes
  imod (close_cell m ρ K c 0 1 (duties_later m ρ _)) $$ [HaB] with HzB
  · isplitr; · iexact HR
    iexact HaB
  imod (close_cell m ρ K c (sIx 0) 1 (duties_later m ρ _)) $$ [HaS0] with HzS0
  · isplitr; · iexact HR
    iexact HaS0
  imod (close_cell m ρ K c (sIx 1) 1 (duties_later m ρ _)) $$ [HaS1] with HzS1
  · isplitr; · iexact HR
    iexact HaS1
  imod (close_cell m ρ K c (sIx 2) 1 (duties_later m ρ _)) $$ [HaS2] with HzS2
  · isplitr; · iexact HR
    iexact HaS2
  imod (close_cell m ρ K c (rIx (px 0 c)) 1 (duties_later m ρ _)) $$ [HaR0] with HzR0
  · isplitr; · iexact HR
    iexact HaR0
  imod (close_cell m ρ K c (rIx (px 1 c)) 1 (duties_later m ρ _)) $$ [HaR1] with HzR1
  · isplitr; · iexact HR
    iexact HaR1
  imod (close_cell m ρ K c (rIx (px 2 c)) 1 (duties_later m ρ _)) $$ [HaR2] with HzR2
  · isplitr; · iexact HR
    iexact HaR2
  imod (close_cell m ρ K c (rIx c) 0 (duties_idle m ρ c)) $$ [HaC] with HzC
  · isplitr; · iexact HR
    iexact HaC
  -- the gather buffer whole again
  ihave Hs12 := (rows_halve c fullShare.right.right (gath m ρ) c).2 $$ [Hs1 Hs2]
  · isplitl [Hs1]; · iexact Hs1
    iexact Hs2
  ihave HownR := (rows_halve c fullShare.right (gath m ρ) c).2 $$ [Hs0 Hs12]
  · isplitl [Hs0]; · iexact Hs0
    iexact Hs12
  ihave HpR := (own_join c fullShare.right (gath m ρ)).1 $$ [HownR Hv0R]
  · isplitl [HownR] <;> iassumption
  ihave Hp := (half_halve c fullShare (gath m ρ) (pr c)).2 $$ [Hp HpR]
  · isplitl [Hp]; · unfold halfPts; iexact Hp
    iexact HpR
  ihave Hg := (whole_join c (gath m ρ)) $$ [Hp Hp']
  · isplitl [Hp]; · iexact Hp
    unfold halfPts; iexact Hp'
  imodintro
  iapply Hk
  unfold bodyPost Φ₁ scratch
  rw [cells_eq c fun g => semVal g 0]
  isplitl [Hg Hm HzB HzS0 HzS1 HzS2 HzR0 HzR1 HzR2 HzC]
  · isplitl [Hg Hm]
    · isplitl [Hg]; · iexists _; iexact Hg
      iexists _; iexact Hm
    isplitl [HzB]; · iexact HzB
    isplitl [HzS0]; · iexact HzS0
    isplitl [HzS1]; · iexact HzS1
    isplitl [HzS2]; · iexact HzS2
    isplitl [HzR0]; · iexact HzR0
    isplitl [HzR1]; · iexact HzR1
    isplitl [HzR2]; · iexact HzR2
    iexact HzC
  isplitl [HO]; · iapply (end_owes m ρ c); iexact HO
  isplitl [Hx]
  · iexists _; isplitr; · (ipureintro; rfl)
    iexact Hx
  iexists _; isplitr; · (ipureintro; rfl)
  iexact Hout

end Body

end Cert.SortProof
-- ==== Proof.Run.lean ====
/-
# `Run`: the launch of the four bodies, and the run of the whole program

The cells and tokens the launch funds, how they are dealt, the credit each device starts with, and the resulting statement
about every execution: it ends, every counter is zero, and the arrays hold what the body's proof data say.
-/
module

public import proofs.«01_k».proof.Proof.Body
public import Idealize.ShloMosaic.Lib.Pipeline.CollectiveSegs

@[expose] public section

noncomputable section

namespace Cert.SortProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem two_windows (Φ : Fin cfg0.W → sProp 𝕄) : bigSep Finset.univ Φ = iprop(Φ (0 : Fin 2) ∗ Φ (1 : Fin 2)) := bigSep_W0 Φ

set_option maxRecDepth 4000 in
def bodyFrom (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [two_windows, two_windows]
  simp only [owns_stg]
  show bodyFrom m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  rw [body_eq_flat]
  unfold bodyFrom Φ₀ start
  iintro ⟨⟨⟨⟨%K, Hg⟩, Hc, Hl⟩, Hscr⟩, Ho, Hx, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [Hx] <;> iassumption
  · iintro H; iexact H

/-! ## Cells and tokens of the launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 8 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- Which duty of a device's own cells: a barrier unit, a send, or a receive. -/
abbrev Duty := Dev nD ⊕ Fin 3 ⊕ Dev nD
/-- The cell a duty belongs to, and who pays it. -/
def dutySem : Duty → SemLoc sig
  | .inl _ => .reg barSem
  | .inr (.inl k) => .dma (sS k)
  | .inr (.inr o) => .dma (rS o)
def dutyOf (c : Dev nD) : Duty → Dev nD
  | .inl d => d
  | .inr (.inl _) => c
  | .inr (.inr o) => o
def tokOf (cj : Dev nD × Duty) : GSem nD τ sig × ℕ × Dev nD := (((cj.1 : Thread nD τ), dutySem cj.2), 0, dutyOf cj.1 cj.2)

theorem duty_injective (c : Dev nD) : Function.Injective fun j : Duty => (dutySem j, dutyOf c j) := by
  revert c; decide
theorem tokOf_injective : Function.Injective tokOf := by
  rintro ⟨c, j⟩ ⟨c', j'⟩ h
  have h1 : c = c' := congrArg (fun x : GSem nD τ sig × ℕ × Dev nD => x.1.1.1) h
  subst h1
  have h2 : j = j' := duty_injective c (congrArg (fun x : GSem nD τ sig × ℕ × Dev nD => (x.1.2, x.2.2)) h)
  rw [h2]
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def ownToks (c : Dev nD) : sProp 𝕄 :=
  iprop((bigSep Finset.univ fun d : Dev nD => dutyTok ER (barCell c) 0 d)
    ∗ (bigSep Finset.univ fun k : Fin 3 => dutyTok ER (sCell k c) 0 c)
    ∗ bigSep Finset.univ fun o : Dev nD => dutyTok ER (rCell o c) 0 o)

/-- What the launch element deals device `c`, -/
def G (c : Dev nD) : sProp 𝕄 :=
  iprop((bigSep Finset.univ fun k : Fin 8 => roundState ER (xchg m ρ) (kcell (c, k)) 0)
    ∗ atAll c ∗ (bigSep Finset.univ fun k : Fin 8 => reached ER (kcell (c, k)) 0) ∗ ownToks c)
/-- and what the global step makes of it. -/
def G' (c : Dev nD) : sProp 𝕄 := iprop(∃ K, ghost m ρ K c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 8 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum, bigSep_univ_sum]; rfl
  iintro HX
  imod (Rounds.fund ER (xchg m ρ) allCells allToks) $$ HX with ⟨Hst, Hr, Hat, Htok⟩
  imodintro
  ihave Hst' := (Entails.of_eq (hX fun g => roundState ER (xchg m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G atAll; simp only [bigSep_sep']
  isplitl [Hst']; · iexact Hst'
  isplitl [Hat']; · iexact Hat'
  isplitl [Hr']; · iexact Hr'
  iexact Htok'

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The transfer semaphores are the kernel's own seven, the barrier the launch's one unscoped semaphore. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 8 => semVal (kcell (c, k)) 0 : sProp 𝕄) := by
  rw [Pipeline.ownSems0_eq_of_list c osem [0, 1, 2, 3, 4, 5, 6] (by decide) (by decide), eight]
  unfold unscopedSems0; rw [bigSep_eq_bigSepL_of_eq [SemLoc.reg barSem] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 8 => iprop(∃ κ : ℕ, cellInv ER (xchg m ρ) κ (kcell (c, k))))
          ∗ atAll c ∗ (bigSep Finset.univ fun k : Fin 8 => reached ER (kcell (c, k)) 0) ∗ ownToks c) := by
  unfold G
  iintro ⟨Hos, Hus, Hst, Hrest⟩
  ihave Hv := (Entails.of_eq (sems0_eq (F := F) c)) $$ [Hos Hus]
  · isplitl [Hus] <;> iassumption
  imod (show iprop((bigSep Finset.univ fun k : Fin 8 => semVal (kcell (c, k)) 0) ∗ bigSep Finset.univ fun k : Fin 8 => roundState ER (xchg m ρ) (kcell (c, k)) 0)
      ⊢ (|={Set.univ}=> bigSep Finset.univ fun k : Fin 8 => iprop(∃ κ : ℕ, cellInv ER (xchg m ρ) κ (kcell (c, k))) : sProp 𝕄) from by
        rw [← bigSep_sep']
        exact (bigSep_mono fun k _ => (Rounds.body_intro ER (xchg m ρ) (kcell (c, k))).trans inv_alloc).trans (bigSep_fupd _ _)) $$ [Hv Hst] with Hinv
  · isplitl [Hv] <;> iassumption
  imodintro
  isplitl [Hinv]; · iexact Hinv
  iexact Hrest

/-- The tokens dealt out: a barrier's and a receive cell's go to the device that pays the duty. -/
theorem toks_dealt : (bigSep Finset.univ fun c : Dev nD => (ownToks c : sProp 𝕄)) ⊢ bigSep Finset.univ fun c : Dev nD => payToks c := by
  unfold ownToks payToks
  rw [bigSep_sep', bigSep_sep', bigSep_sep', bigSep_sep',
    bigSep_univ_comm (fun c d : Dev nD => (dutyTok ER (barCell c) 0 d : sProp 𝕄)),
    bigSep_univ_comm (fun c o : Dev nD => (dutyTok ER (rCell o c) 0 o : sProp 𝕄))]

theorem deal_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 8 => iprop(∃ κ : ℕ, cellInv ER (xchg m ρ) κ (kcell (c, k))))
          ∗ atAll c ∗ (bigSep Finset.univ fun k : Fin 8 => reached ER (kcell (c, k)) 0) ∗ ownToks c) : sProp 𝕄)
      ⊢ bigSep Finset.univ (G' m ρ) := by
  rw [bigSep_sep', bigSep_sep', bigSep_sep', ← bigSep_univ_prod (fun ck : Dev nD × Fin 8 => iprop(∃ κ : ℕ, cellInv ER (xchg m ρ) κ (kcell ck))),
    ← bigSep_univ_prod (fun ck : Dev nD × Fin 8 => (reached ER (kcell ck) 0 : sProp 𝕄))]
  iintro ⟨HI, Hat, #HR, Htok⟩
  ihave HK := (BI.bigSep_exists_pi Finset.univ (fun (ck : Dev nD × Fin 8) (κ : ℕ) => (cellInv ER (xchg m ρ) κ (kcell ck) : sProp 𝕄))) $$ HI
  icases HK with ⟨%K, #HI⟩
  ihave Htk := (toks_dealt (F := F)) $$ Htok
  iapply (deal_persistent (R := records m ρ K) (Φ := fun c => iprop(atAll c ∗ payToks c)) fun c _ => by
    unfold G' ghost
    iintro H
    iexists K
    iexact H)
  isplitr
  · unfold records; isplitl; · iexact HI
    iexact HR
  · rw [bigSep_sep']
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_iff {a b : Dev nD} : barCell a = barCell b ↔ a = b :=
  ⟨fun h => congrArg (fun g : GSem nD τ sig => g.1.1) h, fun h => h ▸ rfl⟩
theorem rS_injective : Function.Injective rS := by decide
theorem recv_iff {o c o' c' : Dev nD} : rCell o c = rCell o' c' ↔ o = o' ∧ c = c' :=
  ⟨fun h => ⟨rS_injective (SemLoc.dma.inj (congrArg Prod.snd h)), congrArg (fun g : GSem nD τ sig => g.1.1) h⟩, fun ⟨h, h'⟩ => h ▸ h' ▸ rfl⟩
theorem bar_ne_recv (a o c : Dev nD) : barCell a ≠ rCell o c := fun h => by cases (congrArg Prod.snd h : (SemLoc.reg barSem : SemLoc sig) = .dma (rS o))

theorem oweB_bar (k : Fin 3) (d c : Dev nD) : oweB k d (barCell c) () = if c = nx k d then 1 else 0 := by
  rw [tallyAt_apply]; simp only [bar_iff, and_true]
theorem oweB_recv (k : Fin 3) (d o c : Dev nD) : oweB k d (rCell o c) () = 0 := by
  rw [tallyAt_apply]; exact if_neg fun h => bar_ne_recv _ _ _ h.1.symm
theorem oweR_bar (k : Fin 3) (d c : Dev nD) : oweR k d (barCell c) () = 0 := by
  rw [tallyAt_apply]; exact if_neg fun h => bar_ne_recv _ _ _ h.1
theorem oweR_recv (k : Fin 3) (d o c : Dev nD) : oweR k d (rCell o c) () = (if o = d ∧ c = px k d then 1 else 0) * N := by
  rw [tallyAt_apply]; simp only [recv_iff, and_true]
  split <;> simp

theorem sum_bar (c : Dev nD) : ∑ d : Dev nD, (((if c = nx 2 d then 1 else 0) + if c = nx 1 d then 1 else 0) + if c = nx 0 d then 1 else 0) = 3 := by
  revert c; decide
theorem sum_recv (j : Fin 3) (c : Dev nD) : ∑ d : Dev nD, (((if px j c = d ∧ c = px 2 d then 1 else 0) + if px j c = d ∧ c = px 1 d then 1 else 0)
    + if px j c = d ∧ c = px 0 d then 1 else 0) = 1 := by
  revert j c; decide

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, ← sum_bar c]
  refine Finset.sum_congr rfl fun d _ => ?_
  unfold O₀ OR
  simp only [Pi.add_apply, Finsupp.add_apply, oweB_bar]
  rw [oweR_bar 2, oweR_bar 1, oweR_bar 0]
  simp only [Nat.zero_add]

theorem launch_recv (j : Fin 3) (c : Dev nD) :
    tallyOn (rCell (px j c) c) (launchCredit (Pipeline.owing O₀) 0 (rCell (px j c) c)) = (tallyAt (rCell (px j c) c) () N : CellTallies nD τ sig Unit) := by
  unfold tallyAt; refine congrArg _ (Finsupp.ext fun u => ?_); cases u
  rw [Pipeline.launchCredit_owing, Finsupp.single_eq_same, ← Nat.one_mul N]
  refine Eq.trans (Finset.sum_congr rfl fun d _ => ?_) ((Finset.sum_mul _ _ _).symm.trans (congrArg (· * N) (sum_recv j c)))
  unfold O₀ OR
  simp only [Pi.add_apply, Finsupp.add_apply, oweB_recv]
  rw [oweR_recv 2, oweR_recv 1, oweR_recv 0]
  simp only [Nat.add_zero, Nat.add_mul]

/-- The semaphores a device waits on with launch credit. -/
theorem creds (c : Dev nD) : (Pipeline.launchCred O₀ c : sProp 𝕄) ⊢ credits c := by
  unfold Pipeline.launchCred
  refine (bigSep_subset (t := {.reg barSem, .dma (rS (px 0 c)), .dma (rS (px 1 c)), .dma (rS (px 2 c))}) (Finset.subset_univ _)).trans ?_
  rw [bigSep_eq_bigSepL_of_eq [.reg barSem, .dma (rS (px 0 c)), .dma (rS (px 1 c)), .dma (rS (px 2 c))] (by revert c; decide) (by revert c; decide)]
  unfold credits
  rw [← launch_bar, ← launch_recv 0, ← launch_recv 1, ← launch_recv 2]
  exact Entails.refl _

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [← sems0_eq]
  iintro ⟨Hr, HzB, HzO⟩
  isplitl [HzB]; · iexact HzB
  isplitl [HzO]; · iexact HzO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every execution of the program on the four devices ends,
    with every array as the proof data give it and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

theorem read_arg (f : (main_arg0 : Ref sig .tc).ty.Contents (Elt F)) : (win0_0.blk (0 : Fin 1)).view.read (Elt F) f = f :=
  Memref.read_access_unit_zero (Elt F) main_arg0
    (show (fun a => (win0_0.index (0 : Fin 1)) a * main_arg0.ty.shape.size a) = fun _ => 0 from
      funext fun a => by fin_cases a <;> decide) (fun a => by fin_cases a <;> decide) f
theorem read_result (f : (main_v1 : Ref sig .tc).ty.Contents (Elt F)) : (win0_1.blk (0 : Fin 1)).view.read (Elt F) f = f :=
  Memref.read_access_unit_zero (Elt F) main_v1
    (show (fun a => (win0_1.index (0 : Fin 1)) a * main_v1.ty.shape.size a) = fun _ => 0 from
      funext fun a => by fin_cases a <;> decide) (fun a => by fin_cases a <;> decide) f

/-- The staged chunk is the argument array. -/
theorem xstg_eq (c : Dev nD) : xstg m ρ c = m ((c : Thread nD τ).loc main_arg0) := read_arg _

/-- The result array after the run holds the chunk the body left. -/
theorem finalA_o (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  rw [read_result] at h
  exact h

/-- Every execution ends with each result array at the returned chunk, the arguments unchanged and every counter zero. -/
theorem run_result : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (finalA_o m ρ c), (h.1 c (0 : Fin 2)).trans (finalA_x m ρ c)⟩, h.2⟩)
    (run_main m ρ)

end Cert.SortProof
-- ==== Proof.Columns.lean ====
/-
# `Columns`: what the compare-exchange stages do, lane by lane

At exact values a stage of the kernel acts on every lane's column of rows as one stage of a sorting network: row `r`
is compared with row `r xor d`, and the row mask says which of the two keeps the smaller. This file reads the masks,
the rotations and the exchanges of halves at a row and a lane, and draws that conclusion.
-/
module

public import proofs.«01_k».proof.Proof.Contents
public import Idealize.ShloMosaic.Lib.SortNet.Sorts
public import Idealize.ShloMosaic.Lib.Pipeline.Value
public import Idealize.ShloMosaic.PureOps.Ideal.Laws

@[expose] public section

noncomputable section

namespace Cert.SortProof

open Idealize.ShloMosaic Idealize.SL.Sem Idealize.ShloMosaic.SortNet
open Cert.KernelIdeal Cert.KernelIdeal.Gen

variable {F : FTy → Type} [FloatOps F]

/-- Row `r` of a mask. -/
def at1 {n : ℕ} (r : Fin n) : (Col n).Idx := Fin.cons r (Fin.cons (0 : Fin 1) fun a => a.elim0)

/-! ## The bit of a row -/

theorem bit_clear_iff (s r : ℕ) : r &&& 2 ^ s = 0 ↔ r / 2 ^ s % 2 = 0 := by
  rw [and_two_pow_eq_zero_iff_testBit, Nat.testBit_eq_decide_div_mod_eq, decide_eq_false_iff_not]; omega

theorem bit_at {n : ℕ} [MaskOk n] (d : ℕ) (hn : n ≤ 2 ^ 32) (hd : d < 2 ^ 32) (r : Fin n) :
    bit n d (at1 r) = BitVec.ofBool (decide (r.val &&& d = 0)) := by
  have hr : r.val < 2 ^ 32 := lt_of_lt_of_le r.isLt hn
  have e : bit n d (at1 r) = BitVec.ofBool ((BitVec.ofNat 32 r.val &&& BitVec.ofNat 32 d) == BitVec.ofNat 32 0) := by
    show BitVec.ofBool ((BitVec.ofNat 32 (0 * n + r.val) &&& BitVec.ofNat 32 d) == BitVec.ofNat 32 0) = _
    rw [Nat.zero_mul, Nat.zero_add]
  rw [e]
  congr 1
  rw [beq_eq_decide]
  refine decide_eq_decide.mpr ?_
  rw [← BitVec.toNat_inj]
  simp only [BitVec.toNat_and, BitVec.toNat_ofNat, Nat.mod_eq_of_lt hr, Nat.mod_eq_of_lt hd, Nat.zero_mod]

theorem flag_at {n : ℕ} [MaskOk n] (b : BitVec 1) (r : Fin n) : flag n b (at1 r) = b := rfl

theorem lanes_at {n : ℕ} [h : MaskOk n] (m : IVec (Col n) 1) (r : Fin n) (l : Fin 128) (hn : n ≠ 1) :
    lanes m (at2 r l) = m (at1 r) := by
  unfold lanes
  rw [shapeCast_self]
  refine broadcastTo_apply _ _ _ _ fun a => ?_
  match a with
  | 0 => exact (if_neg hn).symm
  | 1 => exact (if_pos rfl).symm

/-! ## Bringing the partner over -/

section Read
variable {n d : ℕ}

theorem up_at [h : RotOk n d] (v : FVec F (Mat n) .bf16) (r q : Fin n) (l : Fin 128) (hq : q.val = r.val + d) :
    up n d v (at2 r l) = v (at2 q l) := by
  have := q.isLt
  unfold up
  rw [concatenate_pair_apply_left (t := Mat n) (s₁ := Mat (n - d)) (s₂ := Mat d) 0 _ _ _ _ rfl (at2 (n := n - d) ⟨r.val, by omega⟩ l)]
  · refine extractStridedSlice_apply _ _ _ _ _ fun a => ?_
    match a with
    | 0 => show q.val = d + r.val; omega
    | 1 => show l.val = 0 + l.val; omega
  · intro b
    match b with
    | 0 => rfl
    | 1 => rfl

theorem down_at [h : RotOk n d] (v : FVec F (Mat n) .bf16) (r q : Fin n) (l : Fin 128) (hq : r.val = q.val + d) :
    down n d v (at2 r l) = v (at2 q l) := by
  have := r.isLt
  unfold down
  rw [concatenate_pair_apply_right (t := Mat n) (s₁ := Mat d) (s₂ := Mat (n - d)) 0 _ _ _ _ rfl rfl (at2 (n := n - d) ⟨q.val, by omega⟩ l)]
  · refine extractStridedSlice_apply _ _ _ _ _ fun a => ?_
    match a with
    | 0 => show q.val = 0 + q.val; omega
    | 1 => show l.val = 0 + l.val; omega
  · intro b hb
    match b with
    | 0 => exact absurd rfl hb
    | 1 => rfl
  · show q.val + d = r.val; omega

end Read

/-- The position of half `h`, block `q`, place `t` in the reshaped rows. -/
def at4 {n d : ℕ} (q : Fin (n / (2 * d))) (h : Fin 2) (t : Fin d) (l : Fin 128) : (Blk n d).Idx :=
  Fin.cons q (Fin.cons h (Fin.cons t (Fin.cons l fun a => a.elim0)))
/-- The same within one half. -/
def at4h {n d : ℕ} (q : Fin (n / (2 * d))) (t : Fin d) (l : Fin 128) : (Hlf n d).Idx :=
  Fin.cons q (Fin.cons (0 : Fin 1) (Fin.cons t (Fin.cons l fun a => a.elim0)))

section Halves
variable {n d : ℕ} [h : SwapOk n d] (v : FVec F (Mat n) .bf16)

theorem split_at (r : Fin n) (q : Fin (n / (2 * d))) (b : Fin 2) (t : Fin d) (l : Fin 128)
    (hr : r.val = (q.val * 2 + b.val) * d + t.val) :
    shapeCast (Blk n d) v h.split (at4 q b t l) = v (at2 r l) := by
  refine shapeCast_apply _ _ _ _ ?_
  rw [Shape.rowMajor_val_two, Shape.rowMajor_val_four]
  show r.val * 128 + l.val = ((q.val * 2 + b.val) * d + t.val) * 128 + l.val
  rw [hr]

theorem swap_at (r r' : Fin n) (q : Fin (n / (2 * d))) (b b' : Fin 2) (hb : b.val + b'.val = 1) (t : Fin d) (l : Fin 128)
    (hr : r.val = (q.val * 2 + b.val) * d + t.val) (hr' : r'.val = (q.val * 2 + b'.val) * d + t.val) :
    swap n d v (at2 r l) = v (at2 r' l) := by
  unfold swap
  rw [shapeCast_apply _ h.merge (at2 r l) (at4 q b t l) (by
    rw [Shape.rowMajor_val_two, Shape.rowMajor_val_four]
    show ((q.val * 2 + b.val) * d + t.val) * 128 + l.val = r.val * 128 + l.val
    rw [hr])]
  match b, hb with
  | 0, hb =>
    have e : b' = 1 := Fin.ext (by have : 0 + b'.val = 1 := hb; show b'.val = 1; omega)
    subst e
    rw [concatenate_pair_apply_left (t := Blk n d) (s₁ := Hlf n d) (s₂ := Hlf n d) 1 _ _ _ _ rfl (at4h q t l)]
    · rw [← split_at v r' q 1 t l hr']
      refine extractStridedSlice_apply _ _ _ _ _ fun a => ?_
      match a with
      | 0 => show q.val = 0 + q.val; omega
      | 1 => rfl
      | 2 => show t.val = 0 + t.val; omega
      | 3 => show l.val = 0 + l.val; omega
    · intro x
      match x with
      | 0 => rfl
      | 1 => rfl
      | 2 => rfl
      | 3 => rfl
  | 1, hb =>
    have e : b' = 0 := Fin.ext (by have : 1 + b'.val = 1 := hb; show b'.val = 0; omega)
    subst e
    rw [concatenate_pair_apply_right (t := Blk n d) (s₁ := Hlf n d) (s₂ := Hlf n d) 1 _ _ _ _ rfl rfl (at4h q t l)]
    · rw [← split_at v r' q 0 t l hr']
      refine extractStridedSlice_apply _ _ _ _ _ fun a => ?_
      match a with
      | 0 => show q.val = 0 + q.val; omega
      | 1 => rfl
      | 2 => show t.val = 0 + t.val; omega
      | 3 => show l.val = 0 + l.val; omega
    · intro x hx
      match x with
      | 0 => rfl
      | 1 => exact absurd rfl hx
      | 2 => rfl
      | 3 => rfl
    · rfl

end Halves

/-! ## Columns -/

section Col
variable {p s : ℕ}

/-- Lane `l`'s column of `2 ^ p` rows. -/
def col {α : Type} (v : (Mat (2 ^ p)).Idx → α) (l : Fin 128) : Fin (2 ^ p) → α := fun r => v (at2 r l)

/-- A vector `u` that holds, at every row, what `v` holds at the row's partner at distance `2 ^ s`. -/
def Partnered (s : ℕ) (u v : FVec F (Mat (2 ^ p)) .bf16) : Prop :=
  ∀ (r : Fin (2 ^ p)) (l : Fin 128), u (at2 r l) = v (at2 (partner p s r) l)

theorem rot_partnered [MaskOk (2 ^ p)] [RotOk (2 ^ p) (2 ^ s)] (hp : p ≤ 32) (hs : s < p) (v : FVec F (Mat (2 ^ p)) .bf16) :
    Partnered s (rot (2 ^ p) (2 ^ s) v) v := by
  intro r l
  have h1 : 2 ^ p ≠ 1 := by have := Nat.one_lt_two_pow (n := p) (by omega); omega
  have hd : 2 ^ s < 2 ^ 32 := Nat.pow_lt_pow_right (by decide) (by omega)
  show Scalar.select (lanes (bit (2 ^ p) (2 ^ s)) (at2 r l)) _ _ = _
  rw [lanes_at _ _ _ h1, bit_at _ (Nat.pow_le_pow_right (by decide) hp) hd]
  by_cases hc : r.val &&& 2 ^ s = 0
  · rw [decide_eq_true hc]
    exact up_at v r _ l (partner_val_of_clear hs r hc)
  · rw [decide_eq_false hc]
    have := partner_val_of_set hs r hc
    exact down_at v r _ l (by omega)

theorem swap_partnered [SwapOk (2 ^ p) (2 ^ s)] (hs : s < p) (v : FVec F (Mat (2 ^ p)) .bf16) :
    Partnered s (swap (2 ^ p) (2 ^ s) v) v := by
  intro r l
  have hd : 0 < 2 ^ s := Nat.two_pow_pos s
  have hq : r.val / (2 * 2 ^ s) < 2 ^ p / (2 * 2 ^ s) := by
    refine Nat.div_lt_div_of_lt_of_dvd ?_ r.isLt
    rw [show 2 * 2 ^ s = 2 ^ (s + 1) by rw [Nat.pow_succ, Nat.mul_comm]]
    exact Nat.pow_dvd_pow 2 hs
  have hdd : r.val / (2 * 2 ^ s) = r.val / 2 ^ s / 2 := by rw [Nat.mul_comm, Nat.div_div_eq_div_mul]
  have hdec : r.val = (r.val / 2 ^ s) * 2 ^ s + r.val % 2 ^ s := by rw [Nat.mul_comm]; exact (Nat.div_add_mod _ _).symm
  have hx := bit_clear_iff s r.val
  by_cases hc : r.val &&& 2 ^ s = 0
  · have hv := partner_val_of_clear hs r hc
    have e : r.val / (2 * 2 ^ s) * 2 + 0 = r.val / 2 ^ s := by rw [hdd]; have := hx.mp hc; omega
    refine swap_at v r _ ⟨_, hq⟩ 0 1 rfl ⟨r.val % 2 ^ s, Nat.mod_lt _ hd⟩ l ?_ ?_
    · show r.val = (r.val / (2 * 2 ^ s) * 2 + 0) * 2 ^ s + r.val % 2 ^ s
      rw [e]; exact hdec
    · show _ = (r.val / (2 * 2 ^ s) * 2 + 1) * 2 ^ s + r.val % 2 ^ s
      rw [show r.val / (2 * 2 ^ s) * 2 + 1 = r.val / 2 ^ s + 1 by omega, Nat.add_mul, hv]; omega
  · have hv := partner_val_of_set hs r hc
    have e : r.val / (2 * 2 ^ s) * 2 + 1 = r.val / 2 ^ s := by rw [hdd]; have := mt hx.mpr hc; omega
    refine swap_at v r _ ⟨_, hq⟩ 1 0 rfl ⟨r.val % 2 ^ s, Nat.mod_lt _ hd⟩ l ?_ ?_
    · show r.val = (r.val / (2 * 2 ^ s) * 2 + 1) * 2 ^ s + r.val % 2 ^ s
      rw [e]; exact hdec
    · show _ = (r.val / (2 * 2 ^ s) * 2 + 0) * 2 ^ s + r.val % 2 ^ s
      rw [← e, Nat.add_mul, Nat.one_mul] at hdec
      rw [Nat.add_zero]; omega

/-- ONE STAGE ON A COLUMN: where a row mask keeps the smaller at the lower row of a pair exactly when `w` says the
    larger does not go there, and the opposite at the upper row, the exchange is the network's stage. -/
theorem col_exch [MaskOk (2 ^ p)] (hs : s < p) (keep : IVec (Col (2 ^ p)) 1) (v u : FVec Ideal (Mat (2 ^ p)) .bf16)
    (w : Fin (2 ^ p) → Bool) (hw : ∀ r, r.val &&& 2 ^ s = 0 → w (partner p s r) = w r)
    (hk : ∀ r, keep (at1 r) = BitVec.ofBool (decide (r.val &&& 2 ^ s = 0) ^^ w r))
    (hu : Partnered s u v) (l : Fin 128) :
    (col (exch keep v u) l : Fin (2 ^ p) → EReal) = Network.apply (stage p s w) (col v l : Fin (2 ^ p) → EReal) := by
  have h1 : 2 ^ p ≠ 1 := by have := Nat.one_lt_two_pow (n := p) (by omega); omega
  funext r
  have e : (col (exch keep v u) l r : EReal) =
      Scalar.select (BitVec.ofBool (decide (r.val &&& 2 ^ s = 0) ^^ w r)) (min (col v l r : EReal) (col v l (partner p s r)))
        (max (col v l r : EReal) (col v l (partner p s r))) := by
    show Scalar.select (lanes keep (at2 r l)) (FloatOps.minimumf (v (at2 r l)) (u (at2 r l)))
      (FloatOps.maximumf (v (at2 r l)) (u (at2 r l))) = _
    rw [lanes_at _ _ _ h1, hk r, hu r l]
    rfl
  rw [e]
  by_cases hc : r.val &&& 2 ^ s = 0
  · rw [(apply_stage hs w _ r hc).1, decide_eq_true hc]
    cases w r <;> rfl
  · have hc' := partner_and_of_set hs r hc
    have h := (apply_stage hs w (col v l : Fin (2 ^ p) → EReal) _ hc').2
    rw [partner_partner hs] at h
    have hwr := hw _ hc'
    rw [partner_partner hs] at hwr
    rw [h, decide_eq_false hc, hwr, min_comm, max_comm]
    cases w (partner p s r) <;> rfl

end Col

end Cert.SortProof
-- ==== Proof.Networks.lean ====
/-
# `Networks`: the local sort and the merges are bitonic networks on every lane

Each lane's column, after the stages of the local sort, is the column after the bitonic sorting network of 256
positions; after the stages of a pair's merge, the column after the bitonic merge of 512 positions, ascending or
descending as the flag says; after the last merge's stages inside a chunk, the column after the ascending merge of 256.
-/
module

public import proofs.«01_k».proof.Proof.Columns
public import proofs.«01_k».proof.Proof.Flat

@[expose] public section

noncomputable section

namespace Cert.SortProof

open Idealize.ShloMosaic Idealize.SL.Sem Idealize.ShloMosaic.SortNet
open Cert.KernelIdeal Cert.KernelIdeal.Gen

/-! ## The masks at a row -/

theorem xori_at {n : ℕ} (x y : IVec (Col n) 1) (i : (Col n).Idx) : xori x y i = x i ^^^ y i := rfl

/-- Whether a flag is set. -/
def isSet (b : BitVec 1) : Bool := b == 1#1

theorem mask_merge (x : Bool) (b : BitVec 1) : BitVec.ofBool x ^^^ b = BitVec.ofBool (x ^^ isSet b) := by
  have : ∀ b : BitVec 1, BitVec.ofBool x ^^^ b = BitVec.ofBool (x ^^ isSet b) := by cases x <;> decide
  exact this b

theorem mask_sort (x y : Bool) (b : BitVec 1) :
    BitVec.ofBool x ^^^ BitVec.ofBool y ^^^ 1#1 ^^^ b = BitVec.ofBool (y ^^ (x == isSet b)) := by
  have : ∀ b : BitVec 1, BitVec.ofBool x ^^^ BitVec.ofBool y ^^^ 1#1 ^^^ b = BitVec.ofBool (y ^^ (x == isSet b)) := by
    cases x <;> cases y <;> decide
  exact this b

theorem keepMerge_at {n d : ℕ} [MaskOk n] (hn : n ≤ 2 ^ 32) (hd : d < 2 ^ 32) (b : BitVec 1) (r : Fin n) :
    keepMerge n d b (at1 r) = BitVec.ofBool (decide (r.val &&& d = 0) ^^ isSet b) := by
  unfold keepMerge
  rw [xori_at, bit_at d hn hd, flag_at, mask_merge]

theorem keepSort_at {n k d : ℕ} [MaskOk n] (hn : n ≤ 2 ^ 32) (hk : k < 2 ^ 32) (hd : d < 2 ^ 32) (b : BitVec 1) (r : Fin n) :
    keepSort n k d b (at1 r) =
      BitVec.ofBool (decide (r.val &&& d = 0) ^^ (decide (r.val &&& k = 0) == isSet b)) := by
  unfold keepSort
  rw [xori_at, xori_at, xori_at, bit_at k hn hk, bit_at d hn hd, flag_at]
  exact mask_sort _ _ b

/-- Two different bits have nothing in common. -/
theorem two_pow_and {s t : ℕ} (h : s ≠ t) : 2 ^ s &&& 2 ^ t = 0 := by
  rw [and_two_pow_eq_zero_iff_testBit, Nat.testBit_two_pow_of_ne h]

/-! ## The stages on a column -/

section Stages
variable {p s : ℕ} [MaskOk (2 ^ p)] (hp : p ≤ 32) (hs : s < p) (u v : FVec Ideal (Mat (2 ^ p)) .bf16)
  (hu : Partnered s u v) (l : Fin 128)
include hp hs hu

theorem col_merge (b : BitVec 1) :
    (col (exch (keepMerge (2 ^ p) (2 ^ s) b) v u) l : Fin (2 ^ p) → EReal) =
      Network.apply (stage p s fun _ => isSet b) (col v l : Fin (2 ^ p) → EReal) :=
  col_exch hs _ v u _ (fun _ _ => rfl)
    (fun r => keepMerge_at (Nat.pow_le_pow_right (by decide) hp) (Nat.pow_lt_pow_right (by decide) (by omega)) b r) hu l

theorem col_last :
    (col (exch (bit (2 ^ p) (2 ^ s)) v u) l : Fin (2 ^ p) → EReal) =
      Network.apply (stage p s fun _ => false) (col v l : Fin (2 ^ p) → EReal) :=
  col_exch hs _ v u _ (fun _ _ => rfl)
    (fun r => by
      rw [bit_at _ (Nat.pow_le_pow_right (by decide) hp) (Nat.pow_lt_pow_right (by decide) (by omega)), Bool.xor_false]) hu l

theorem col_sort (b : BitVec 1) (t : ℕ) (hst : s ≤ t) (ht : t < 31) :
    (col (exch (keepSort (2 ^ p) (2 ^ (t + 1)) (2 ^ s) b) v u) l : Fin (2 ^ p) → EReal) =
      Network.apply (stage p s fun i => decide (i.val &&& 2 ^ (t + 1) = 0) == isSet b)
        (col v l : Fin (2 ^ p) → EReal) :=
  col_exch hs _ v u _
    (fun r hr => by
      have e : (partner p s r).val &&& 2 ^ (t + 1) = r.val &&& 2 ^ (t + 1) := by
        rw [partner_val hs, Nat.and_xor_distrib_right, two_pow_and (by omega), Nat.xor_zero]
      rw [e])
    (fun r => keepSort_at (Nat.pow_le_pow_right (by decide) hp) (Nat.pow_lt_pow_right (by decide) (by omega))
      (Nat.pow_lt_pow_right (by decide) (by omega)) b r) hu l

end Stages

/-! ## The chains -/

instance : MaskOk (2 ^ 8) := inferInstanceAs (MaskOk 256)
instance : MaskOk (2 ^ 9) := inferInstanceAs (MaskOk 512)
instance : MaskOk (2 ^ 10) := inferInstanceAs (MaskOk 1024)
instance : SwapOk (2 ^ 9) (2 ^ 8) := inferInstanceAs (SwapOk 512 256)
instance : SwapOk (2 ^ 10) (2 ^ 9) := inferInstanceAs (SwapOk 1024 512)

/-- A column of 256 or of 512 rows, at exact values. -/
def col8 (v : FVec Ideal (Mat 256) .bf16) (l : Fin 128) : Fin (2 ^ 8) → EReal := col (p := 8) v l
def col9 (v : FVec Ideal (Mat 512) .bf16) (l : Fin 128) : Fin (2 ^ 9) → EReal := col (p := 9) v l
def col10 (v : FVec Ideal (Mat 1024) .bf16) (l : Fin 128) : Fin (2 ^ 10) → EReal := col (p := 10) v l

section Steps
variable {d k s : ℕ} {l : Fin 128} {v : FVec Ideal (Mat 256) .bf16} {z : FVec Ideal (Mat 512) .bf16}
  {N : Network (2 ^ 8)} {N' : Network (2 ^ 9)} {x : Fin (2 ^ 8) → EReal} {y : Fin (2 ^ 9) → EReal}

theorem step_sr (t s : ℕ) (hk : k = 2 ^ (t + 1)) (hd : d = 2 ^ s) {_ : RotOk 256 d} (b : BitVec 1) (hs : s < 8 ∧ s ≤ t ∧ t < 31)
    (h : col8 v l = Network.apply N x) :
    col8 (sr k d b v) l = Network.apply (N ++ stage 8 s fun i => decide (i.val &&& 2 ^ (t + 1) = 0) == isSet b) x := by
  subst hk hd
  haveI : RotOk (2 ^ 8) (2 ^ s) := ‹_›
  rw [Network.apply_append, ← h]
  exact col_sort (p := 8) (by decide) hs.1 _ v (rot_partnered (p := 8) (by decide) hs.1 v) l b t hs.2.1 hs.2.2

theorem step_ss (t s : ℕ) (hk : k = 2 ^ (t + 1)) (hd : d = 2 ^ s) {_ : SwapOk 256 d} (b : BitVec 1) (hs : s < 8 ∧ s ≤ t ∧ t < 31)
    (h : col8 v l = Network.apply N x) :
    col8 (ss k d b v) l = Network.apply (N ++ stage 8 s fun i => decide (i.val &&& 2 ^ (t + 1) = 0) == isSet b) x := by
  subst hk hd
  haveI : SwapOk (2 ^ 8) (2 ^ s) := ‹_›
  rw [Network.apply_append, ← h]
  exact col_sort (p := 8) (by decide) hs.1 _ v (swap_partnered (p := 8) hs.1 v) l b t hs.2.1 hs.2.2

theorem step_mr (s : ℕ) (hd : d = 2 ^ s) {_ : RotOk 512 d} (b : BitVec 1) (hs : s < 9)
    (h : col9 z l = Network.apply N' y) :
    col9 (mr d b z) l = Network.apply (N' ++ stage 9 s fun _ => isSet b) y := by
  subst hd
  haveI : RotOk (2 ^ 9) (2 ^ s) := ‹_›
  rw [Network.apply_append, ← h]
  exact col_merge (p := 9) (by decide) hs _ z (rot_partnered (p := 9) (by decide) hs z) l b

theorem step_ms (s : ℕ) (hd : d = 2 ^ s) {_ : SwapOk 512 d} (b : BitVec 1) (hs : s < 9)
    (h : col9 z l = Network.apply N' y) :
    col9 (ms d b z) l = Network.apply (N' ++ stage 9 s fun _ => isSet b) y := by
  subst hd
  haveI : SwapOk (2 ^ 9) (2 ^ s) := ‹_›
  rw [Network.apply_append, ← h]
  exact col_merge (p := 9) (by decide) hs _ z (swap_partnered (p := 9) hs z) l b

theorem step_fr (s : ℕ) (hd : d = 2 ^ s) {_ : RotOk 256 d} (hs : s < 8) (h : col8 v l = Network.apply N x) :
    col8 (fr 256 d v) l = Network.apply (N ++ stage 8 s fun _ => false) x := by
  subst hd
  haveI : RotOk (2 ^ 8) (2 ^ s) := ‹_›
  rw [Network.apply_append, ← h]
  exact col_last (p := 8) (by decide) hs _ v (rot_partnered (p := 8) (by decide) hs v) l

theorem step_fs (s : ℕ) (hd : d = 2 ^ s) {_ : SwapOk 256 d} (hs : s < 8) (h : col8 v l = Network.apply N x) :
    col8 (fs 256 d v) l = Network.apply (N ++ stage 8 s fun _ => false) x := by
  subst hd
  haveI : SwapOk (2 ^ 8) (2 ^ s) := ‹_›
  rw [Network.apply_append, ← h]
  exact col_last (p := 8) (by decide) hs _ v (swap_partnered (p := 8) hs v) l

end Steps

/-- The stage over all 1024 rows. -/
theorem col_fs1024 (v : FVec Ideal (Mat 1024) .bf16) (l : Fin 128) :
    col10 (fs 1024 512 v) l = Network.apply (stage 10 9 fun _ => false) (col10 v l) :=
  col_last (p := 10) (s := 9) (by decide) (by decide) _ v (swap_partnered (p := 10) (s := 9) (by decide) v) l

/-- The stage over one half. -/
theorem col_fs512 (v : FVec Ideal (Mat 512) .bf16) (l : Fin 128) :
    col9 (fs 512 256 v) l = Network.apply (stage 9 8 fun _ => false) (col9 v l) :=
  col_last (p := 9) (s := 8) (by decide) (by decide) _ v (swap_partnered (p := 9) (s := 8) (by decide) v) l

/-- The last merge inside a chunk is the ascending merge of 256 positions. -/
theorem col_chunkMerge (v : FVec Ideal (Mat 256) .bf16) (l : Fin 128) :
    col8 (chunkMerge v) l = Network.apply (mergeAscNet 8) (col8 v l) := by
  unfold chunkMerge
  exact step_fr 0 rfl (by decide) <| step_fr 1 rfl (by decide) <| step_fr 2 rfl (by decide) <| step_fr 3 rfl (by decide) <|
    step_fs 4 rfl (by decide) <| step_fs 5 rfl (by decide) <| step_fs 6 rfl (by decide) <| step_fs 7 rfl (by decide) <|
      (Network.apply_nil _).symm

/-- Nine pieces in a row, the last first. -/
theorem nine_pieces {α : Type} (f : ℕ → List α) :
    [] ++ f 8 ++ f 7 ++ f 6 ++ f 5 ++ f 4 ++ f 3 ++ f 2 ++ f 1 ++ f 0 = (List.range 9).reverse.flatMap f := by
  simp [List.range_succ]

/-- The merge of a pair is the bitonic merge of 512 positions, all exchanges turned the way the flag says. -/
theorem col_pairMerge (b : BitVec 1) (v : FVec Ideal (Mat 512) .bf16) (l : Fin 128) :
    col9 (pairMerge b v) l = Network.apply ((List.range 9).reverse.flatMap fun s => stage 9 s fun _ => isSet b) (col9 v l) := by
  unfold pairMerge
  refine Eq.trans (step_mr 0 rfl b (by decide) <| step_mr 1 rfl b (by decide) <| step_mr 2 rfl b (by decide) <|
    step_mr 3 rfl b (by decide) <| step_ms 4 rfl b (by decide) <| step_ms 5 rfl b (by decide) <| step_ms 6 rfl b (by decide) <|
      step_ms 7 rfl b (by decide) <| step_ms 8 rfl b (by decide) <| (Network.apply_nil _).symm) ?_
  exact congrArg (fun N => Network.apply N (col9 v l)) (nine_pieces fun s => stage 9 s fun _ => isSet b)

/-- The pieces of a sort's eight levels in a row. -/
theorem eight_levels {α : Type} (f : ℕ → ℕ → List α) :
    [] ++ f 0 0 ++ f 1 1 ++ f 1 0 ++ f 2 2 ++ f 2 1 ++ f 2 0
     ++ f 3 3 ++ f 3 2 ++ f 3 1 ++ f 3 0
     ++ f 4 4 ++ f 4 3 ++ f 4 2 ++ f 4 1 ++ f 4 0
     ++ f 5 5 ++ f 5 4 ++ f 5 3 ++ f 5 2 ++ f 5 1 ++ f 5 0
     ++ f 6 6 ++ f 6 5 ++ f 6 4 ++ f 6 3 ++ f 6 2 ++ f 6 1 ++ f 6 0
     ++ f 7 7 ++ f 7 6 ++ f 7 5 ++ f 7 4 ++ f 7 3 ++ f 7 2 ++ f 7 1 ++ f 7 0
      =
      (List.range 8).flatMap fun t => (List.range (t + 1)).reverse.flatMap (f t) := by
  simp [List.range_succ]

/-- The local sort is the bitonic sort of 256 positions, descending when the flag is set. -/
theorem col_localSort (b : BitVec 1) (v : FVec Ideal (Mat 256) .bf16) (l : Fin 128) :
    col8 (localSort b v) l = Network.apply (sortNet 8 (isSet b)) (col8 v l) := by
  unfold localSort
  dsimp only
  refine Eq.trans (
    step_sr 7 0 rfl rfl b (by decide) <| step_sr 7 1 rfl rfl b (by decide) <| step_sr 7 2 rfl rfl b (by decide) <| step_sr 7 3 rfl rfl b (by decide) <| step_ss 7 4 rfl rfl b (by decide) <| step_ss 7 5 rfl rfl b (by decide) <| step_ss 7 6 rfl rfl b (by decide) <| step_ss 7 7 rfl rfl b (by decide) <|
    step_sr 6 0 rfl rfl b (by decide) <| step_sr 6 1 rfl rfl b (by decide) <| step_sr 6 2 rfl rfl b (by decide) <| step_sr 6 3 rfl rfl b (by decide) <| step_ss 6 4 rfl rfl b (by decide) <| step_ss 6 5 rfl rfl b (by decide) <| step_ss 6 6 rfl rfl b (by decide) <|
    step_sr 5 0 rfl rfl b (by decide) <| step_sr 5 1 rfl rfl b (by decide) <| step_sr 5 2 rfl rfl b (by decide) <| step_sr 5 3 rfl rfl b (by decide) <| step_ss 5 4 rfl rfl b (by decide) <| step_ss 5 5 rfl rfl b (by decide) <|
    step_sr 4 0 rfl rfl b (by decide) <| step_sr 4 1 rfl rfl b (by decide) <| step_sr 4 2 rfl rfl b (by decide) <| step_sr 4 3 rfl rfl b (by decide) <| step_ss 4 4 rfl rfl b (by decide) <|
    step_sr 3 0 rfl rfl b (by decide) <| step_sr 3 1 rfl rfl b (by decide) <| step_sr 3 2 rfl rfl b (by decide) <| step_sr 3 3 rfl rfl b (by decide) <|
    step_sr 2 0 rfl rfl b (by decide) <| step_sr 2 1 rfl rfl b (by decide) <| step_sr 2 2 rfl rfl b (by decide) <|
    step_sr 1 0 rfl rfl b (by decide) <| step_sr 1 1 rfl rfl b (by decide) <|
    step_sr 0 0 rfl rfl b (by decide) <|
    (Network.apply_nil _).symm) ?_
  exact congrArg (fun N => Network.apply N (col8 v l))
    (eight_levels fun t s => stage 8 s fun i => decide (i.val &&& 2 ^ (t + 1) = 0) == isSet b)

end Cert.SortProof
-- ==== Proof.Sorted.lean ====
/-
# `Sorted`: the four devices together sort every lane's column

The chunks' local sorts, the pairs' merges and the last merge, put together over the 1024 rows, are three networks on
each lane's column. The last one's input ascends over the first half and descends over the second, so its output
ascends. A network only moves entries about, so the output is a rearrangement of the input column.
-/
module

public import proofs.«01_k».proof.Proof.Networks
public import Idealize.ShloMosaic.Lib.SortNet.HostSort

@[expose] public section

noncomputable section

namespace Cert.SortProof

open Idealize.ShloMosaic Idealize.SL.Sem Idealize.ShloMosaic.SortNet
open Cert.KernelIdeal Cert.KernelIdeal.Gen

/-- Two ascending rearrangements of one another are equal. -/
theorem eq_of_rearranged {n : ℕ} {f g : Fin n → EReal} (hf : Monotone f) (hg : Monotone g) (σ : Equiv.Perm (Fin n))
    (h : g = f ∘ σ) : f = g := by
  apply List.ofFn_injective
  refine List.Perm.eq_of_pairwise (le := fun a b => a ≤ b) (fun a b _ _ h1 h2 => le_antisymm h1 h2) ?_ ?_ ?_
  · exact List.pairwise_ofFn.mpr fun i j hij => hf (le_of_lt hij)
  · exact List.pairwise_ofFn.mpr fun i j hij => hg (le_of_lt hij)
  · rw [h]; exact (Equiv.Perm.ofFn_comp_perm σ f).symm

/-! ## The places of the chunks and the pairs -/

/-- Place `j` of chunk `c`. -/
def inChunk (c : Fin 4) (j : Fin (2 ^ 8)) : Fin (2 ^ 10) := chunkPos (P := 10) (p := 8) (by decide) c j
/-- Place `j` of pair `q`. -/
def inPair (q : Fin 2) (j : Fin (2 ^ 9)) : Fin (2 ^ 10) := chunkPos (P := 10) (p := 9) (by decide) q j

theorem inChunk_val (c : Fin 4) (j : Fin (2 ^ 8)) : (inChunk c j).val = c.val * 256 + j.val := rfl
theorem inPair_val (q : Fin 2) (j : Fin (2 ^ 9)) : (inPair q j).val = q.val * 512 + j.val := rfl

theorem exists_inChunk (i : Fin (2 ^ 10)) : ∃ c j, i = inChunk c j :=
  ⟨⟨i.val / 256, by have := i.isLt; omega⟩, ⟨i.val % 256, Nat.mod_lt _ (by decide)⟩,
    Fin.ext (by rw [inChunk_val]; dsimp only; omega)⟩
theorem exists_inPair (i : Fin (2 ^ 10)) : ∃ q j, i = inPair q j :=
  ⟨⟨i.val / 512, by have := i.isLt; omega⟩, ⟨i.val % 512, Nat.mod_lt _ (by decide)⟩,
    Fin.ext (by rw [inPair_val]; dsimp only; omega)⟩

/-! ## Levels acting chunk by chunk -/

theorem apply_levels_chunk {α : Type} [LinearOrder α] {P p : ℕ} (hp : p ≤ P) (S : ℕ → List ℕ)
    (w : ℕ → Fin (2 ^ P) → Bool) (c : Fin (2 ^ (P - p))) (L : List ℕ) (hS : ∀ t ∈ L, ∀ s ∈ S t, s < p)
    (v : Fin (2 ^ P) → α) (j : Fin (2 ^ p)) :
    Network.apply (L.flatMap fun t => (S t).flatMap fun s => stage P s (w t)) v (chunkPos hp c j) =
      Network.apply (L.flatMap fun t => (S t).flatMap fun s => stage p s fun j => w t (chunkPos hp c j))
        (fun j => v (chunkPos hp c j)) j := by
  induction L generalizing v j with
  | nil => rfl
  | cons t L ih =>
    rw [List.flatMap_cons, List.flatMap_cons, Network.apply_append, Network.apply_append,
      ih (fun t' ht => hS t' (List.mem_cons_of_mem t ht))]
    congr 1
    funext j'
    exact apply_flatMap_stage_chunkPos hp (S t) (hS t List.mem_cons_self) (w t) v c j'

/-- The four local sorts as one network: each level turned by the place within the chunk and by the chunk's parity. -/
def sortAll : Network (2 ^ 10) :=
  (List.range 8).flatMap fun t => (List.range (t + 1)).reverse.flatMap fun s =>
    stage 10 s fun i => decide (i.val % 256 &&& 2 ^ (t + 1) = 0) == decide (i.val / 256 % 2 = 1)

theorem sortAll_chunk (v : Fin (2 ^ 10) → EReal) (c : Fin 4) (j : Fin (2 ^ 8)) :
    Network.apply sortAll v (inChunk c j) =
      Network.apply (sortNet 8 (decide (c.val % 2 = 1))) (fun j => v (inChunk c j)) j := by
  refine (apply_levels_chunk (P := 10) (p := 8) (by decide) (fun t => (List.range (t + 1)).reverse) _ c (List.range 8)
    (fun t ht s hs => ?_) v j).trans ?_
  · have h1 := List.mem_range.mp ht
    have h2 := List.mem_range.mp (List.mem_reverse.mp hs)
    omega
  · have e : ∀ (t : ℕ) (j : Fin (2 ^ 8)),
        (decide ((inChunk c j).val % 256 &&& 2 ^ (t + 1) = 0) == decide ((inChunk c j).val / 256 % 2 = 1)) =
          (decide (j.val &&& 2 ^ (t + 1) = 0) == decide (c.val % 2 = 1)) := by
      intro t j
      have := j.isLt
      rw [inChunk_val, show (c.val * 256 + j.val) % 256 = j.val by omega, show (c.val * 256 + j.val) / 256 = c.val by omega]
    unfold sortNet
    refine congrArg (fun w : ℕ → Fin (2 ^ 8) → Bool => Network.apply ((List.range 8).flatMap fun t =>
      (List.range (t + 1)).reverse.flatMap fun s => stage 8 s (w t)) (fun j => v (inChunk c j)) j)
      (funext fun t => funext fun j => e t j)

/-- The two pairs' merges as one network, turned by the pair's parity. -/
def mergePairs : Network (2 ^ 10) :=
  (List.range 9).reverse.flatMap fun s => stage 10 s fun i => decide (i.val / 512 % 2 = 1)

theorem mergePairs_pair (v : Fin (2 ^ 10) → EReal) (q : Fin 2) (j : Fin (2 ^ 9)) :
    Network.apply mergePairs v (inPair q j) =
      Network.apply ((List.range 9).reverse.flatMap fun s => stage 9 s fun _ => decide (q.val % 2 = 1))
        (fun j => v (inPair q j)) j := by
  refine (apply_flatMap_stage_chunkPos (P := 10) (p := 9) (by decide) _ (fun s hs => ?_) _ v q j).trans ?_
  · have h2 := List.mem_range.mp (List.mem_reverse.mp hs)
    omega
  · have e : ∀ j : Fin (2 ^ 9), decide ((inPair q j).val / 512 % 2 = 1) = decide (q.val % 2 = 1) := by
      intro j
      have := j.isLt
      rw [inPair_val, show (q.val * 512 + j.val) / 512 = q.val by omega]
    exact congrArg (fun w : Fin (2 ^ 9) → Bool => Network.apply ((List.range 9).reverse.flatMap fun s => stage 9 s w)
      (fun j => v (inPair q j)) j) (funext e)

/-! ## The run's values -/

variable (m : (ℓ : Loc nD τ sig) → Buf (Elt Ideal) ℓ) (ρ : Dev nD → PrngReg)

/-- The whole input: the four chunks one under another. -/
def input : FVec Ideal (Mat 1024) .bf16 :=
  fun i => xstg m ρ (chunkOf i) (at2 ⟨(rowOf i).val % 256, Nat.mod_lt _ (by decide)⟩ (laneOf i))

theorem isSet_ofNat (n : ℕ) : isSet (BitVec.ofNat 1 n) = decide (n % 2 = 1) := by
  unfold isSet
  rw [beq_eq_decide]
  refine decide_eq_decide.mpr ?_
  rw [← BitVec.toNat_inj]
  simp [BitVec.toNat_ofNat]

section Place
variable (c : Fin 4) (j : Fin (2 ^ 8)) (l : Fin 128)
theorem chunkOf_in : chunkOf (at2 (n := 1024) (inChunk c j) l) = c := by
  have := j.isLt
  refine Fin.ext ?_
  show (inChunk c j).val / 256 = c.val
  rw [inChunk_val]; omega
theorem mod_in : (⟨(rowOf (at2 (n := 1024) (inChunk c j) l)).val % 256, Nat.mod_lt _ (by decide)⟩ : Fin 256) = j := by
  have := j.isLt
  refine Fin.ext ?_
  show (inChunk c j).val % 256 = j.val
  rw [inChunk_val]; omega
theorem pairOf_in (q : Fin 2) (j : Fin (2 ^ 9)) : pairOf (at2 (n := 1024) (inPair q j) l) = q := by
  have := j.isLt
  refine Fin.ext ?_
  show (inPair q j).val / 512 = q.val
  rw [inPair_val]; omega
theorem mod_in_pair (q : Fin 2) (j : Fin (2 ^ 9)) :
    (⟨(rowOf (at2 (n := 1024) (inPair q j) l)).val % 512, Nat.mod_lt _ (by decide)⟩ : Fin 512) = j := by
  have := j.isLt
  refine Fin.ext ?_
  show (inPair q j).val % 512 = j.val
  rw [inPair_val]; omega
end Place

variable (l : Fin 128)

theorem input_in (c : Fin 4) (j : Fin (2 ^ 8)) : col10 (input m ρ) l (inChunk c j) = col8 (xstg m ρ c) l j := by
  show xstg m ρ (chunkOf (at2 (n := 1024) (inChunk c j) l)) (at2 _ l) = xstg m ρ c (at2 j l)
  rw [chunkOf_in c j l, mod_in c j l]

theorem gath_in (c : Fin 4) (j : Fin (2 ^ 8)) : col10 (gath m ρ) l (inChunk c j) = col8 (sorted m ρ c) l j := by
  show sorted m ρ (chunkOf (at2 (n := 1024) (inChunk c j) l)) (at2 _ l) = sorted m ρ c (at2 j l)
  rw [chunkOf_in c j l, mod_in c j l]

theorem sorted_col (c : Fin 4) :
    col8 (sorted m ρ c) l = Network.apply (sortNet 8 (decide (c.val % 2 = 1))) (col8 (xstg m ρ c) l) := by
  unfold sorted
  rw [flipWord_eq, col_localSort, isSet_ofNat, Nat.mod_mod]

theorem gath_col : col10 (gath m ρ) l = Network.apply sortAll (col10 (input m ρ) l) := by
  funext i
  obtain ⟨c, j, rfl⟩ := exists_inChunk i
  rw [gath_in, sorted_col, sortAll_chunk]
  exact congrArg (fun x => Network.apply _ x j) (funext fun j => (input_in m ρ l c j).symm)

theorem half_col (q : Fin 2) (f : FVec Ideal (Mat 1024) .bf16) (j : Fin (2 ^ 9)) :
    col9 (half q f) l j = col10 f l (inPair q j) := by
  refine congrArg f (at2_ext ?_ rfl)
  show 512 * q.val + j.val = (inPair q j).val
  rw [inPair_val]; omega

theorem merged_in (q : Fin 2) (j : Fin (2 ^ 9)) :
    col10 (merged m ρ) l (inPair q j) = col9 (pairMerge (BitVec.ofNat 1 q.val) (half q (gath m ρ))) l j := by
  show pairMerge (BitVec.ofNat 1 (pairOf (at2 (n := 1024) (inPair q j) l)).val)
    (half (pairOf (at2 (n := 1024) (inPair q j) l)) (gath m ρ)) (at2 _ l) = pairMerge _ _ (at2 j l)
  rw [pairOf_in l q j, mod_in_pair l q j]

theorem pair_col (q : Fin 2) :
    col9 (pairMerge (BitVec.ofNat 1 q.val) (half q (gath m ρ))) l =
      Network.apply ((List.range 9).reverse.flatMap fun s => stage 9 s fun _ => decide (q.val % 2 = 1))
        (fun j => col10 (gath m ρ) l (inPair q j)) := by
  rw [col_pairMerge, isSet_ofNat]
  exact congrArg (Network.apply _) (funext fun j => half_col l q _ j)

theorem merged_col : col10 (merged m ρ) l = Network.apply mergePairs (col10 (gath m ρ) l) := by
  funext i
  obtain ⟨q, j, rfl⟩ := exists_inPair i
  rw [merged_in, pair_col, mergePairs_pair]

/-! ## The last merge -/

/-- Each lane's column once everything is merged. -/
def final : Fin (2 ^ 10) → EReal := Network.apply (mergeAscNet 10) (col10 (merged m ρ) l)

theorem ten_pieces {α : Type} (f : ℕ → List α) :
    (List.range 10).reverse.flatMap f = f 9 ++ (f 8 ++ (List.range 8).reverse.flatMap f) := by
  simp [List.range_succ]

theorem last2_in (c : Fin 4) (j : Fin (2 ^ 8)) :
    col8 (quarter c (last2 m ρ c)) l j =
      Network.apply (stage 10 8 fun _ => false) (col10 (last1 m ρ) l) (inChunk c j) := by
  have hj := j.isLt
  have hc := c.isLt
  have hp : (pr c).val = c.val / 2 := rfl
  have hx : inChunk c j = inPair (pr c) ⟨c.val % 2 * 256 + j.val, by omega⟩ := by
    refine Fin.ext ?_
    rw [inChunk_val, inPair_val, hp]; dsimp only; omega
  rw [hx]
  refine Eq.trans ?_ (apply_stage_chunk (P := 10) (p := 9) (by decide) (by decide) _ _ (pr c) _).symm
  have e : (fun j => col10 (last1 m ρ) l (chunkPos (P := 10) (p := 9) (by decide) (pr c) j)) = col9 (half (pr c) (last1 m ρ)) l :=
    funext fun j => (half_col l (pr c) _ j).symm
  rw [e, ← col_fs512]
  show setRows (512 * (pr c).val) 512 (last1 m ρ) (fs 512 256 (half (pr c) (last1 m ρ)))
    (at2 ⟨256 * c.val + j.val, _⟩ l) = fs 512 256 (half (pr c) (last1 m ρ)) (at2 ⟨c.val % 2 * 256 + j.val, _⟩ l)
  unfold setRows
  rw [dif_pos]
  · refine congrArg _ (at2_ext ?_ rfl)
    show 256 * c.val + j.val - 512 * (pr c).val = c.val % 2 * 256 + j.val
    omega
  · show 512 * (pr c).val ≤ 256 * c.val + j.val ∧ 256 * c.val + j.val < 512 * (pr c).val + 512
    omega

/-- What a device returns is its chunk of the fully merged column. -/
theorem out_in (c : Fin 4) (j : Fin (2 ^ 8)) :
    col8 (chunkMerge (quarter c (last2 m ρ c))) l j = final m ρ l (inChunk c j) := by
  unfold final mergeAscNet
  rw [ten_pieces, Network.apply_append, Network.apply_append, col_chunkMerge]
  refine Eq.trans ?_ (apply_flatMap_stage_chunk (P := 10) (p := 8) (by decide) (List.range 8).reverse
    (fun s hs => List.mem_range.mp (List.mem_reverse.mp hs)) (fun _ => false) (fun _ => false) (fun _ _ => rfl) _ c j).symm
  refine congrArg (fun x => Network.apply (mergeAscNet 8) x j) (funext fun j => ?_)
  rw [last2_in]
  unfold last1
  rw [col_fs1024]
  rfl

/-! ## Order -/

theorem sorted_asc (c : Fin 4) (h : c.val % 2 = 0) : Monotone (col8 (sorted m ρ c) l) := by
  rw [sorted_col, decide_eq_false (by omega)]
  exact sortNet_apply_monotone 8 _
theorem sorted_desc (c : Fin 4) (h : c.val % 2 = 1) : Antitone (col8 (sorted m ρ c) l) := by
  rw [sorted_col, decide_eq_true h]
  exact sortNet_apply_antitone 8 _

/-- A pair's column ascends over its first chunk and descends over its second. -/
theorem pair_bitonic (q : Fin 2) : DescAsc fun j => col10 (gath m ρ) l (inPair q j) := by
  have hq := q.isLt
  refine ⟨256, Or.inr ⟨fun i j hij hj => ?_, fun i j hij hi => ?_⟩⟩
  · have hij' : i.val ≤ j.val := hij
    have hi' : i.val < 2 ^ 8 := by have : i.val < 256 := by omega
                                   exact this
    have ei : inPair q i = inChunk ⟨2 * q.val, by omega⟩ ⟨i.val, hi'⟩ :=
      Fin.ext (by rw [inPair_val, inChunk_val]; dsimp only; omega)
    have ej : inPair q j = inChunk ⟨2 * q.val, by omega⟩ ⟨j.val, hj⟩ :=
      Fin.ext (by rw [inPair_val, inChunk_val]; dsimp only; omega)
    dsimp only
    rw [ei, ej, gath_in, gath_in]
    exact sorted_asc m ρ l _ (by dsimp only; omega) hij
  · have hij' : i.val ≤ j.val := hij
    have h1 := i.isLt
    have h2 := j.isLt
    have ei : inPair q i = inChunk ⟨2 * q.val + 1, by omega⟩ ⟨i.val - 256, by omega⟩ :=
      Fin.ext (by rw [inPair_val, inChunk_val]; dsimp only; omega)
    have ej : inPair q j = inChunk ⟨2 * q.val + 1, by omega⟩ ⟨j.val - 256, by omega⟩ :=
      Fin.ext (by rw [inPair_val, inChunk_val]; dsimp only; omega)
    dsimp only
    rw [ei, ej, gath_in, gath_in]
    exact sorted_desc m ρ l _ (by dsimp only; omega) (by show i.val - 256 ≤ j.val - 256; omega)

theorem merged_bitonic : DescAsc (col10 (merged m ρ) l) := by
  have h0 : Monotone (col9 (pairMerge (BitVec.ofNat 1 (0 : Fin 2).val) (half 0 (gath m ρ))) l) := by
    rw [pair_col]; exact mergeAscNet_apply_monotone 9 _ (pair_bitonic m ρ l 0)
  have h1 : Antitone (col9 (pairMerge (BitVec.ofNat 1 (1 : Fin 2).val) (half 1 (gath m ρ))) l) := by
    rw [pair_col]; exact mergeDescNet_apply_antitone 9 _ (pair_bitonic m ρ l 1)
  refine ⟨512, Or.inr ⟨fun i j hij hj => ?_, fun i j hij hi => ?_⟩⟩
  · have hij' : i.val ≤ j.val := hij
    have hi' : i.val < 2 ^ 9 := by have : i.val < 512 := by omega
                                   exact this
    have ei : i = inPair 0 ⟨i.val, hi'⟩ := Fin.ext (by rw [inPair_val]; show i.val = 0 * 512 + i.val; omega)
    have ej : j = inPair 0 ⟨j.val, hj⟩ := Fin.ext (by rw [inPair_val]; show j.val = 0 * 512 + j.val; omega)
    rw [ei, ej, merged_in, merged_in]
    exact h0 hij
  · have hij' : i.val ≤ j.val := hij
    have h1' := i.isLt
    have h2' := j.isLt
    have ei : i = inPair 1 ⟨i.val - 512, by omega⟩ := Fin.ext (by rw [inPair_val]; show i.val = 1 * 512 + (i.val - 512); omega)
    have ej : j = inPair 1 ⟨j.val - 512, by omega⟩ := Fin.ext (by rw [inPair_val]; show j.val = 1 * 512 + (j.val - 512); omega)
    rw [ei, ej, merged_in, merged_in]
    exact h1 (by show i.val - 512 ≤ j.val - 512; omega)

theorem final_monotone : Monotone (final m ρ l) := mergeAscNet_apply_monotone 10 _ (merged_bitonic m ρ l)

theorem final_rearranged : ∃ σ : Equiv.Perm (Fin (2 ^ 10)), final m ρ l = col10 (input m ρ) l ∘ σ := by
  unfold final
  rw [merged_col, gath_col, ← Network.apply_append, ← Network.apply_append]
  exact Network.exists_perm _ _

end Cert.SortProof
-- ==== Proof.Value.lean ====
/-
# `Value`: what the devices return is the reference's sort

The reference sorts every lane's column of the whole array. Its column is an ascending rearrangement of the input
column, and so is the column the four devices' chunks make up, so the two agree row by row.
-/
module

public import proofs.«01_k».proof.Proof.Sorted
public import proofs.«01_k».proof.Proof.Run
public import proofs.«01_k».proof.Proof.Gen.ReferenceIdeal.Run
public import Idealize.ShloMosaic.Lib.SortFacts
public import Idealize.ShloMosaic.Lib.Layout

@[expose] public section

noncomputable section

namespace Cert.SortProof

open Idealize.ShloMosaic Idealize.SL.Sem Idealize.ShloMosaic.SortNet Idealize.ShloMosaic.TcCoe
open Cert.KernelIdeal Cert.KernelIdeal.Gen

/-! ## The reference's column -/

/-- The reference's value on a whole array. -/
def refSort (X : FVec Ideal (Mat 1024) .bf16) : FVec Ideal (Mat 1024) .f32 :=
  Host.sort (Mat 1024) 0 Cert.ReferenceIdeal.comparator_f32_d0 (extf .f32 X Cert.ReferenceIdeal.Facts₀.bitsLt_bf16_f32)

/-- The reference's comparison of two exact values: the two values are first made ordinary — a value equal to zero
    becomes that zero, one different from itself a fixed value — which changes neither. -/
theorem comparator_eq (a b : EReal) :
    Cert.ReferenceIdeal.comparator_f32_d0 (F := Ideal) a b = BitVec.ofBool (decide (a < b)) := by
  have plain : ∀ x z w : EReal,
      Scalar.select (Ideal.cmp .une x x) w (Scalar.select (Ideal.cmp .oeq x z) z x) = x := by
    intro x z w
    have e : Ideal.cmp .une x x = 0#1 := by simp [Ideal.cmp]
    rw [e]
    show Scalar.select (Ideal.cmp .oeq x z) z x = x
    by_cases h : x = z
    · subst h; unfold Scalar.select; split <;> rfl
    · have e' : Ideal.cmp .oeq x z = 0#1 := by simp [Ideal.cmp, h]
      rw [e']; rfl
  show Ideal.cmp .olt (Scalar.select (Ideal.cmp .une a a) _ (Scalar.select (Ideal.cmp .oeq a _) _ a))
    (Scalar.select (Ideal.cmp .une b b) _ (Scalar.select (Ideal.cmp .oeq b _) _ b)) = _
  rw [plain, plain]
  rfl

theorem rank_pos : 0 < (Mat 1024).rank := by decide

/-- A sort down the rows, read at a row and a lane. -/
theorem sort_at {α : Type} (cmp : α → α → BitVec 1) (x : (Mat 1024).Idx → α) (r : Fin 1024) (l : Fin 128) :
    Host.sort (Mat 1024) 0 cmp x (at2 r l) =
      x (at2 (sortedFrom (fun k k' : Fin 1024 => cmp (x (at2 k l)) (x (at2 k' l)) == 1#1) r) l) := by
  have hal : ∀ k : Fin 1024, (at2 (n := 1024) r l).along (⟨0, rank_pos⟩ : Fin (Mat 1024).rank) k = at2 k l := by
    intro k
    refine at2_ext ?_ ?_ <;> rfl
  unfold Host.sort
  rw [dif_pos rank_pos]
  show x ((at2 (n := 1024) r l).along (⟨0, rank_pos⟩ : Fin (Mat 1024).rank)
    (sortedFrom (fun k k' : Fin 1024 => cmp (x ((at2 (n := 1024) r l).along (⟨0, rank_pos⟩ : Fin (Mat 1024).rank) k))
      (x ((at2 (n := 1024) r l).along (⟨0, rank_pos⟩ : Fin (Mat 1024).rank) k')) == 1#1) r)) = _
  simp only [hal]
  exact congrArg x (hal _)

section Stable
variable {n : ℕ} (x : Fin n → EReal)

/-- Whether one place of a column comes strictly before another in value. -/
def before : Fin n → Fin n → Bool := fun k k' => decide (x k < x k')

/-- A column sorted by the stable sort. -/
def stable : Fin n → EReal := fun r => x (sortedFrom (before x) r)

theorem stable_monotone : Monotone (stable x) := by
  intro i j hij
  rcases lt_or_eq_of_le hij with h | h
  · have := sortedFrom_noInversion (before x) (before x)
      (fun a b h => decide_eq_false (not_lt.mpr (le_of_lt (of_decide_eq_true h)))) (fun a b h => h)
      (fun a b c h1 h2 => decide_eq_false (not_lt.mpr (le_trans (not_lt.mp (of_decide_eq_false h2)) (not_lt.mp (of_decide_eq_false h1)))))
      i j h
    exact not_lt.mp (of_decide_eq_false this)
  · rw [h]

theorem stable_rearranged : ∃ σ : Equiv.Perm (Fin n), stable x = x ∘ σ :=
  ⟨Equiv.ofBijective _ ⟨sortedFrom_injective (before x), sortedFrom_surjective (before x)⟩, rfl⟩

end Stable

/-- Every lane's column of the reference's value is the input's column, sorted. -/
theorem refSort_at (X : FVec Ideal (Mat 1024) .bf16) (r : Fin 1024) (l : Fin 128) :
    (refSort X (at2 r l) : EReal) = stable (n := 1024) (fun r => X (at2 r l)) r := by
  unfold refSort
  rw [sort_at]
  have hb : (fun k k' : Fin 1024 => Cert.ReferenceIdeal.comparator_f32_d0 (F := Ideal)
        (extf .f32 X Cert.ReferenceIdeal.Facts₀.bitsLt_bf16_f32 (at2 k l))
        (extf .f32 X Cert.ReferenceIdeal.Facts₀.bitsLt_bf16_f32 (at2 k' l)) == 1#1)
      = before (n := 1024) (fun r => X (at2 r l)) := by
    funext k k'
    refine (congrArg (· == 1#1) (comparator_eq (X (at2 k l)) (X (at2 k' l)))).trans ?_
    unfold before
    cases decide (X (at2 k l) < X (at2 k' l)) <;> rfl
  rw [hb]
  rfl

/-! ## The two agree -/

variable (m : (ℓ : Loc nD τ sig) → Buf (Elt Ideal) ℓ) (ρ : Dev nD → PrngReg)

theorem final_eq (l : Fin 128) : final m ρ l = stable (col10 (input m ρ) l) := by
  obtain ⟨σ, hσ⟩ := final_rearranged m ρ l
  obtain ⟨τ', hτ⟩ := stable_rearranged (col10 (input m ρ) l)
  refine eq_of_rearranged (final_monotone m ρ l) (stable_monotone _) (τ'.trans σ.symm) ?_
  rw [hτ, hσ]
  funext r
  simp

/-- Device `c`'s chunk of a whole array. -/
theorem block_at {α : Type} (c : Dev nD) (v : (Mat 1024).Idx → α) (j : Fin (2 ^ 8)) (l : Fin 128) :
    Layout.block (Mat 256) (Mat 1024) 0 4 c v (by decide) (at2 (n := 256) j l) = v (at2 (n := 1024) (inChunk c j) l) := by
  rw [Layout.block_apply]
  refine congrArg v (at2_ext ?_ ?_)
  · exact (Layout.Tiles.idx_val _ _ _ _).trans rfl
  · exact (Layout.Tiles.idx_val _ _ _ _).trans rfl

/-- THE VALUE: when the devices hold the chunks of `X`, device `c` returns chunk `c` of the reference's value on `X`. -/
theorem out_eq (X : FVec Ideal (Mat 1024) .bf16)
    (hX : ∀ c : Dev nD, m ((c : Thread nD τ).loc main_arg0) = Layout.block (Mat 256) (Mat 1024) 0 4 c X (by decide)) (c : Dev nD) :
    outAt m ρ c = Layout.block (Mat 256) (Mat 1024) 0 4 c (refSort X) (by decide) := by
  have hin : input m ρ = X := by
    funext i
    have h : at2 (rowOf i) (laneOf i) = i := at2_eta i
    obtain ⟨c', j, hj⟩ := exists_inChunk (rowOf i)
    rw [← h, hj]
    refine (input_in m ρ (laneOf i) c' j).trans ?_
    show xstg m ρ c' (at2 j (laneOf i)) = _
    rw [xstg_eq, hX]
    exact block_at c' X j (laneOf i)
  funext i
  have h : at2 (rowOf i) (laneOf i) = i := at2_eta i
  rw [← h]
  refine Eq.trans ?_ (block_at c (refSort X) (rowOf i) (laneOf i)).symm
  refine (out_in m ρ (laneOf i) c (rowOf i)).trans ?_
  rw [final_eq, hin]
  exact (refSort_at X (inChunk c (rowOf i)) (laneOf i)).symm

end Cert.SortProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two printings of the kernel have the same body at their one label. -/
theorem bodies_eq : Cert.Kernel.defs₀ (F := Bits) = Cert.KernelIdeal.defs₀ := by
  refine congrArg Defs.onTc (funext fun l => ?_)
  match l with
  | 0 => funext a; obtain ⟨t, s⟩ := a; rfl
  | ⟨n + 1, h⟩ => exact absurd h (Nat.not_lt.2 (Nat.le_add_left _ _))

/-- So they have the same body table. -/
theorem defs_eq : Cert.Kernel.defs (F := Bits) = Cert.KernelIdeal.defs :=
  congrArg (Pipeline.defs (Cert.Kernel.pcfgs (F := Bits))) bodies_eq

/-- The kernel at the machine's float values: it runs, leaves its argument and every counter as they were. -/
theorem frame_kernel : Cert.quiescent_Kernel := fun m ρ _ => by
  rw [defs_eq]
  exact (θ_run Cert.KernelIdeal.defs _ _).mono (fun _ h => ⟨fun c => (h.1 c).2, h.2⟩)
    (Cert.SortProof.run_result (F := Bits) m ρ)

/-- The same at exact values. -/
theorem frame_ideal : Cert.quiescent_KernelIdeal := fun m ρ _ =>
  (θ_run Cert.KernelIdeal.defs _ _).mono (fun _ h => ⟨fun c => (h.1 c).2, h.2⟩) (Cert.SortProof.run_result (F := Ideal) m ρ)

/-- The reference runs, and has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The devices return the chunks of what the reference returns. -/
theorem same_value : Cert.algebraic_KernelIdeal_ReferenceIdeal := fun m ρ m' ρ' _ hX =>
  ⟨Cert.SortProof.refSort (m' (((0 : Dev Cert.ReferenceIdeal.nD).tc : Thread Cert.ReferenceIdeal.nD Cert.ReferenceIdeal.τ).loc
      Cert.ReferenceIdeal.main_arg0)),
    (θ_run Cert.KernelIdeal.defs _ _).mono
      (fun _ h c => ⟨((h.1 c).1).trans (Cert.SortProof.out_eq m ρ _ hX c), (h.1 c).2⟩)
      (Cert.SortProof.run_result (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, same_value⟩

end Cert.Proof

end
